-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_filled [hPre_all_filled : Cert.Pre_all_filled.Facts] (m : (ℓ : Loc Cert.KernelIdeal.nD Cert.KernelIdeal.τ Cert.KernelIdeal.sig) → Buf (Elt Ideal) ℓ) : Prop :=
  ∀ c : Dev Cert.KernelIdeal.nD,
    (Cert.Pre_all_filled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_filled [hPre_all_filled : Cert.Pre_all_filled.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_filled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_all_filled [hKernelIdeal : Cert.KernelIdeal.Facts] [hPre_all_filled : Cert.Pre_all_filled.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_filled m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_all_filled [hReferenceIdeal : Cert.ReferenceIdeal.Facts] [hPre_all_filled : Cert.Pre_all_filled.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_filled m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal_pre_all_filled [hKernelIdeal : Cert.KernelIdeal.Facts] [hReferenceIdeal : Cert.ReferenceIdeal.Facts] [hPre_all_filled : Cert.Pre_all_filled.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_filled m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_arg7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg7) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_v115) = v1 c
          ∧ r.2.mem ((c.tc : Thread Cert.ReferenceIdeal.nD Cert.ReferenceIdeal.τ).loc Cert.ReferenceIdeal.main_v86_6) = v2 c
          ∧ r.2.mem ((c.tc : Thread Cert.ReferenceIdeal.nD Cert.ReferenceIdeal.τ).loc Cert.ReferenceIdeal.main_v36) = v3 c
          ∧ r.2.mem ((c.tc : Thread Cert.ReferenceIdeal.nD Cert.ReferenceIdeal.τ).loc Cert.ReferenceIdeal.main_v50) = v4 c
          ∧ r.2.mem ((c.tc : Thread Cert.ReferenceIdeal.nD Cert.ReferenceIdeal.τ).loc Cert.ReferenceIdeal.main_v65) = v5 c
          ∧ r.2.mem ((c.tc : Thread Cert.ReferenceIdeal.nD Cert.ReferenceIdeal.τ).loc Cert.ReferenceIdeal.main_v80) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_all_filled : Cert.Pre_all_filled.Facts),
    quiescent_Kernel (hKernel := hKernel)
    ∧ quiescent_KernelIdeal (hKernelIdeal := hKernelIdeal)
    ∧ quiescent_KernelIdeal_pre_all_filled (hKernelIdeal := hKernelIdeal) (hPre_all_filled := hPre_all_filled)
    ∧ quiescent_ReferenceIdeal (hReferenceIdeal := hReferenceIdeal)
    ∧ quiescent_ReferenceIdeal_pre_all_filled (hReferenceIdeal := hReferenceIdeal) (hPre_all_filled := hPre_all_filled)
    ∧ preserves_Kernel_KernelIdeal
    ∧ algebraic_KernelIdeal_ReferenceIdeal_pre_all_filled (hKernelIdeal := hKernelIdeal) (hReferenceIdeal := hReferenceIdeal) (hPre_all_filled := hPre_all_filled)
-- ==== Pre_all_filled.lean ====
abbrev S1024x128 : Shape := ⟨2, ![1024, 128]⟩
abbrev S1024x128x128 : Shape := ⟨3, ![1024, 128, 128]⟩
abbrev S128x128 : Shape := ⟨2, ![128, 128]⟩
abbrev S128 : Shape := ⟨1, ![128]⟩
abbrev S512x257 : Shape := ⟨2, ![512, 257]⟩
abbrev S512x128 : Shape := ⟨2, ![512, 128]⟩
abbrev S512 : Shape := ⟨1, ![512]⟩
abbrev S512x256 : Shape := ⟨2, ![512, 256]⟩
abbrev S_ : Shape := ⟨0, ![]⟩

class Facts : Prop where
  reducesTo_S1024x128_S_d0_1 : S1024x128.ReducesTo [0, 1] S_
  h_S_ : 0 < S_.numel

variable [Facts]

def fn {F : FTy → Type} [FloatOps F] (main_arg0 : FVec F S1024x128 .f32) (main_arg1 : FVec F S1024x128 .f32) (main_arg2 : FVec F S1024x128 .f32) (main_arg3 : FVec F S1024x128 .f32) (main_arg4 : FVec F S1024x128x128 .f32) (main_arg5 : FVec F S1024x128x128 .f32) (main_arg6 : FVec F S1024x128 .f32) (main_arg7 : IVec S1024x128 1) (main_arg8 : FVec F S128x128 .f32) (main_arg9 : FVec F S128x128 .f32) (main_arg10 : FVec F S128x128 .f32) (main_arg11 : FVec F S128 .f32) (main_arg12 : FVec F S512x257 .f32) (main_arg13 : FVec F S512x128 .f32) (main_arg14 : FVec F S512 .f32) (main_arg15 : FVec F S512 .f32) (main_arg16 : FVec F S512x256 .f32) (main_arg17 : FVec F S512 .f32) (main_arg18 : FVec F S512x128 .f32) : IVec S_ 1 :=
  let main_c : IVec S_ 1 := constantI S_ 1 1#1
  let main_v0 : IVec S_ 1 := (fun x v => Host.reduce IntOp.andi x v reducesTo_S1024x128_S_d0_1 h_S_) main_arg7 main_c
  main_v0
-- ==== Kernel.lean ====
abbrev S1024x128 : Shape := ⟨2, ![1024, 128]⟩
abbrev S1024x128x128 : Shape := ⟨3, ![1024, 128, 128]⟩
abbrev S128x128 : Shape := ⟨2, ![128, 128]⟩
abbrev S128 : Shape := ⟨1, ![128]⟩
abbrev S512x257 : Shape := ⟨2, ![512, 257]⟩
abbrev S512x128 : Shape := ⟨2, ![512, 128]⟩
abbrev S512 : Shape := ⟨1, ![512]⟩
abbrev S512x256 : Shape := ⟨2, ![512, 256]⟩
abbrev S128x512 : Shape := ⟨2, ![128, 512]⟩
abbrev S512x1 : Shape := ⟨2, ![512, 1]⟩
abbrev S1x1x512 : Shape := ⟨3, ![1, 1, 512]⟩
abbrev S1x512 : Shape := ⟨2, ![1, 512]⟩
abbrev S1x128 : Shape := ⟨2, ![1, 128]⟩
abbrev S128x1024x512 : Shape := ⟨3, ![128, 1024, 512]⟩
abbrev S64x128 : Shape := ⟨2, ![64, 128]⟩
abbrev S64x128x128 : Shape := ⟨3, ![64, 128, 128]⟩
abbrev S128x64x512 : Shape := ⟨3, ![128, 64, 512]⟩
abbrev S64x1x128 : Shape := ⟨3, ![64, 1, 128]⟩
abbrev S64x16x128 : Shape := ⟨3, ![64, 16, 128]⟩
abbrev S64x16 : Shape := ⟨2, ![64, 16]⟩
abbrev S64 : Shape := ⟨1, ![64]⟩
abbrev S64x1 : Shape := ⟨2, ![64, 1]⟩
abbrev S64x16x1 : Shape := ⟨3, ![64, 16, 1]⟩
abbrev S16x64x128 : Shape := ⟨3, ![16, 64, 128]⟩
abbrev S1024x512 : Shape := ⟨2, ![1024, 512]⟩
abbrev S16x64 : Shape := ⟨2, ![16, 64]⟩
abbrev S16x64x1 : Shape := ⟨3, ![16, 64, 1]⟩
abbrev S16x64x512 : Shape := ⟨3, ![16, 64, 512]⟩
abbrev S1x1024x512 : Shape := ⟨3, ![1, 1024, 512]⟩

abbrev nBuf : Space → Nat
  | .hbm => 52
  | .vmem => 39
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S1024x128x128, .f32⟩
  | .hbm, ⟨5, _⟩ => ⟨S1024x128x128, .f32⟩
  | .hbm, ⟨6, _⟩ => ⟨S1024x128, .f32⟩
  | .hbm, ⟨7, _⟩ => ⟨S1024x128, .i1⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S512x257, .f32⟩
  | .hbm, ⟨13, _⟩ => ⟨S512x128, .f32⟩
  | .hbm, ⟨14, _⟩ => ⟨S512, .f32⟩
  | .hbm, ⟨15, _⟩ => ⟨S512, .f32⟩
  | .hbm, ⟨16, _⟩ => ⟨S512x256, .f32⟩
  | .hbm, ⟨17, _⟩ => ⟨S512, .f32⟩
  | .hbm, ⟨18, _⟩ => ⟨S512x128, .f32⟩
  | .hbm, ⟨19, _⟩ => ⟨S128x128, .f32⟩
  | .hbm, ⟨20, _⟩ => ⟨S128x128, .f32⟩
  | .hbm, ⟨21, _⟩ => ⟨S128x128, .f32⟩
  | .hbm, ⟨22, _⟩ => ⟨S512x128, .f32⟩
  | .hbm, ⟨23, _⟩ => ⟨S128x512, .f32⟩
  | .hbm, ⟨24, _⟩ => ⟨S128x512, .bf16⟩
  | .hbm, ⟨25, _⟩ => ⟨S512x128, .f32⟩
  | .hbm, ⟨26, _⟩ => ⟨S128x512, .f32⟩
  | .hbm, ⟨27, _⟩ => ⟨S128x512, .bf16⟩
  | .hbm, ⟨28, _⟩ => ⟨S512x1, .f32⟩
  | .hbm, ⟨29, _⟩ => ⟨S512, .f32⟩
  | .hbm, ⟨30, _⟩ => ⟨S1x1x512, .f32⟩
  | .hbm, ⟨31, _⟩ => ⟨S512, .f32⟩
  | .hbm, ⟨32, _⟩ => ⟨S1x1x512, .f32⟩
  | .hbm, ⟨33, _⟩ => ⟨S128x512, .f32⟩
  | .hbm, ⟨34, _⟩ => ⟨S128x512, .bf16⟩
  | .hbm, ⟨35, _⟩ => ⟨S512x128, .f32⟩
  | .hbm, ⟨36, _⟩ => ⟨S128x512, .f32⟩
  | .hbm, ⟨37, _⟩ => ⟨S128x512, .bf16⟩
  | .hbm, ⟨38, _⟩ => ⟨S512x128, .f32⟩
  | .hbm, ⟨39, _⟩ => ⟨S128x512, .f32⟩
  | .hbm, ⟨40, _⟩ => ⟨S128x512, .bf16⟩
  | .hbm, ⟨41, _⟩ => ⟨S1x512, .f32⟩
  | .hbm, ⟨42, _⟩ => ⟨S128x512, .f32⟩
  | .hbm, ⟨43, _⟩ => ⟨S128x512, .bf16⟩
  | .hbm, ⟨44, _⟩ => ⟨S1x128, .f32⟩
  | .hbm, ⟨45, _⟩ => ⟨S1024x128x128, .f32⟩
  | .hbm, ⟨46, _⟩ => ⟨S1024x128x128, .f32⟩
  | .hbm, ⟨47, _⟩ => ⟨S1024x128, .f32⟩
  | .hbm, ⟨48, _⟩ => ⟨S128x1024x512, .bf16⟩
  | .hbm, ⟨49, _⟩ => ⟨S1024x128, .f32⟩
  | .hbm, ⟨50, _⟩ => ⟨S1024x128, .f32⟩
  | .hbm, ⟨51, _⟩ => ⟨S1024x128, .f32⟩
  | .local _ .vmem, ⟨0, _⟩ => ⟨S64x128, .f32⟩
  | .local _ .vmem, ⟨1, _⟩ => ⟨S64x128, .f32⟩
  | .local _ .vmem, ⟨2, _⟩ => ⟨S64x128x128, .f32⟩
  | .local _ .vmem, ⟨3, _⟩ => ⟨S64x128x128, .f32⟩
  | .local _ .vmem, ⟨4, _⟩ => ⟨S64x128x128, .f32⟩
  | .local _ .vmem, ⟨5, _⟩ => ⟨S64x128x128, .f32⟩
  | .local _ .vmem, ⟨6, _⟩ => ⟨S64x128, .f32⟩
  | .local _ .vmem, ⟨7, _⟩ => ⟨S64x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S1x128, .f32⟩
  | .local _ .vmem, ⟨12, _⟩ => ⟨S128x512, .bf16⟩
  | .local _ .vmem, ⟨13, _⟩ => ⟨S128x512, .bf16⟩
  | .local _ .vmem, ⟨14, _⟩ => ⟨S1x1x512, .f32⟩
  | .local _ .vmem, ⟨15, _⟩ => ⟨S1x1x512, .f32⟩
  | .local _ .vmem, ⟨16, _⟩ => ⟨S64x128x128, .f32⟩
  | .local _ .vmem, ⟨17, _⟩ => ⟨S64x128x128, .f32⟩
  | .local _ .vmem, ⟨18, _⟩ => ⟨S64x128x128, .f32⟩
  | .local _ .vmem, ⟨19, _⟩ => ⟨S64x128x128, .f32⟩
  | .local _ .vmem, ⟨20, _⟩ => ⟨S64x128, .f32⟩
  | .local _ .vmem, ⟨21, _⟩ => ⟨S64x128, .f32⟩
  | .local _ .vmem, ⟨22, _⟩ => ⟨S128x64x512, .bf16⟩
  | .local _ .vmem, ⟨23, _⟩ => ⟨S128x64x512, .bf16⟩
  | .local _ .vmem, ⟨24, _⟩ => ⟨S1x1024x512, .bf16⟩
  | .local _ .vmem, ⟨25, _⟩ => ⟨S1x1024x512, .bf16⟩
  | .local _ .vmem, ⟨26, _⟩ => ⟨S1024x128, .f32⟩
  | .local _ .vmem, ⟨27, _⟩ => ⟨S1024x128, .f32⟩
  | .local _ .vmem, ⟨28, _⟩ => ⟨S1024x128, .f32⟩
  | .local _ .vmem, ⟨29, _⟩ => ⟨S128x512, .bf16⟩
  | .local _ .vmem, ⟨30, _⟩ => ⟨S128x512, .bf16⟩
  | .local _ .vmem, ⟨31, _⟩ => ⟨S128x512, .bf16⟩
  | .local _ .vmem, ⟨32, _⟩ => ⟨S1x512, .f32⟩
  | .local _ .vmem, ⟨33, _⟩ => ⟨S128x512, .bf16⟩
  | .local _ .vmem, ⟨34, _⟩ => ⟨S1024x128, .f32⟩
  | .local _ .vmem, ⟨35, _⟩ => ⟨S1024x128, .f32⟩
  | .local _ .vmem, ⟨36, _⟩ => ⟨S1024x128, .f32⟩
  | .local _ .vmem, ⟨37, _⟩ => ⟨S1024x128, .f32⟩
  | .local _ .vmem, ⟨38, _⟩ => ⟨S1024x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_v15 : Ref sig .tc := ⟨.hbm, 34, rfl⟩
abbrev main_call0_v16 : Ref sig .tc := ⟨.hbm, 35, rfl⟩
abbrev main_call0_v17 : Ref sig .tc := ⟨.hbm, 36, rfl⟩
abbrev main_call0_v18 : Ref sig .tc := ⟨.hbm, 37, rfl⟩
abbrev main_call0_v19 : Ref sig .tc := ⟨.hbm, 38, rfl⟩
abbrev main_call0_v20 : Ref sig .tc := ⟨.hbm, 39, rfl⟩
abbrev main_call0_v21 : Ref sig .tc := ⟨.hbm, 40, rfl⟩
abbrev main_call0_v22 : Ref sig .tc := ⟨.hbm, 41, rfl⟩
abbrev main_call0_v23 : Ref sig .tc := ⟨.hbm, 42, rfl⟩
abbrev main_call0_v24 : Ref sig .tc := ⟨.hbm, 43, rfl⟩
abbrev main_call0_v25 : Ref sig .tc := ⟨.hbm, 44, rfl⟩
abbrev main_v0_3 : Ref sig .tc := ⟨.hbm, 45, rfl⟩
abbrev main_v0_4 : Ref sig .tc := ⟨.hbm, 46, rfl⟩
abbrev main_v0_5 : Ref sig .tc := ⟨.hbm, 47, rfl⟩
abbrev main_call0_v26_3 : Ref sig .tc := ⟨.hbm, 48, rfl⟩
abbrev main_v0_0 : Ref sig .tc := ⟨.hbm, 49, rfl⟩
abbrev main_v0_1 : Ref sig .tc := ⟨.hbm, 50, rfl⟩
abbrev main_v0_2 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc1_stg0_0 : Ref sig .tc := ⟨.vmem, 24, rfl⟩
abbrev cc1_stg0_1 : Ref sig .tc := ⟨.vmem, 25, rfl⟩
abbrev cc1_stg1_0 : Ref sig .tc := ⟨.vmem, 26, rfl⟩
abbrev cc1_stg2_0 : Ref sig .tc := ⟨.vmem, 27, rfl⟩
abbrev cc1_stg3_0 : Ref sig .tc := ⟨.vmem, 28, rfl⟩
abbrev cc1_stg4_0 : Ref sig .tc := ⟨.vmem, 29, rfl⟩
abbrev cc1_stg5_0 : Ref sig .tc := ⟨.vmem, 30, rfl⟩
abbrev cc1_stg6_0 : Ref sig .tc := ⟨.vmem, 31, rfl⟩
abbrev cc1_stg7_0 : Ref sig .tc := ⟨.vmem, 32, rfl⟩
abbrev cc1_stg8_0 : Ref sig .tc := ⟨.vmem, 33, rfl⟩
abbrev cc1_stg9_0 : Ref sig .tc := ⟨.vmem, 34, rfl⟩
abbrev cc1_stg10_0 : Ref sig .tc := ⟨.vmem, 35, rfl⟩
abbrev cc1_stg11_0 : Ref sig .tc := ⟨.vmem, 36, rfl⟩
abbrev cc1_scratch0 : Ref sig .tc := ⟨.vmem, 37, rfl⟩
abbrev cc1_scratch1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc1_sem0_0 : DmaSem sig := 24
abbrev cc1_sem0_1 : DmaSem sig := 25
abbrev cc1_sem1_0 : DmaSem sig := 26
abbrev cc1_sem2_0 : DmaSem sig := 27
abbrev cc1_sem3_0 : DmaSem sig := 28
abbrev cc1_sem4_0 : DmaSem sig := 29
abbrev cc1_sem5_0 : DmaSem sig := 30
abbrev cc1_sem6_0 : DmaSem sig := 31
abbrev cc1_sem7_0 : DmaSem sig := 32
abbrev cc1_sem8_0 : DmaSem sig := 33
abbrev cc1_sem9_0 : DmaSem sig := 34
abbrev cc1_sem10_0 : DmaSem sig := 35
abbrev cc1_sem11_0 : DmaSem sig := 36

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S64x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x64x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨1, ![128], ![false]⟩

def k1_cond2 (i : grid1.Coords) : BitVec 1 :=
  let arg0 : BitVec 32 := BitVec.ofNat 32 (i 0).val
  let c127_i32 : BitVec 32 := 127#32
  let v51 : BitVec 1 := Scalar.cmpi .eq arg0 c127_i32
  let v52 : BitVec 32 := Scalar.extui v51
  let c0_i32_22 : BitVec 32 := 0#32
  let v53 : BitVec 1 := Scalar.cmpi .ne v52 c0_i32_22
  v53

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x512 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x512 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1024x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1024x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1024x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]
-- ==== ReferenceIdeal.lean ====
abbrev S1024x128 : Shape := ⟨2, ![1024, 128]⟩
abbrev S1024x128x128 : Shape := ⟨3, ![1024, 128, 128]⟩
abbrev S128x128 : Shape := ⟨2, ![128, 128]⟩
abbrev S128 : Shape := ⟨1, ![128]⟩
abbrev S512x257 : Shape := ⟨2, ![512, 257]⟩
abbrev S512x128 : Shape := ⟨2, ![512, 128]⟩
abbrev S512 : Shape := ⟨1, ![512]⟩
abbrev S512x256 : Shape := ⟨2, ![512, 256]⟩
abbrev S_ : Shape := ⟨0, ![]⟩
abbrev S1024x1x128 : Shape := ⟨3, ![1024, 1, 128]⟩
abbrev S1x128 : Shape := ⟨2, ![1, 128]⟩
abbrev S1024 : Shape := ⟨1, ![1024]⟩
abbrev S1024x1 : Shape := ⟨2, ![1024, 1]⟩
abbrev S1024x2 : Shape := ⟨2, ![1024, 2]⟩
abbrev S1024x128x1 : Shape := ⟨3, ![1024, 128, 1]⟩
abbrev S1024x128x257 : Shape := ⟨3, ![1024, 128, 257]⟩
abbrev S128x1024x257 : Shape := ⟨3, ![128, 1024, 257]⟩
abbrev S1x1024x257 : Shape := ⟨3, ![1, 1024, 257]⟩
abbrev S1024x257 : Shape := ⟨2, ![1024, 257]⟩
abbrev S257x512 : Shape := ⟨2, ![257, 512]⟩
abbrev S1024x512 : Shape := ⟨2, ![1024, 512]⟩
abbrev S1x512 : Shape := ⟨2, ![1, 512]⟩
abbrev S128x512 : Shape := ⟨2, ![128, 512]⟩
abbrev S1024x256 : Shape := ⟨2, ![1024, 256]⟩
abbrev S256x512 : Shape := ⟨2, ![256, 512]⟩

abbrev nBuf : Space → Nat
  | .hbm => 240
  | .vmem => 0
  | .smem => 0
  | _ => 0

abbrev hbmTy0_0 (i : Nat) : BufTy := match i % 128 with
  | 0 => ⟨S1024x128, .f32⟩
  | 1 => ⟨S1024x128, .f32⟩
  | 2 => ⟨S1024x128, .f32⟩
  | 3 => ⟨S1024x128, .f32⟩
  | 4 => ⟨S1024x128x128, .f32⟩
  | 5 => ⟨S1024x128x128, .f32⟩
  | 6 => ⟨S1024x128, .f32⟩
  | 7 => ⟨S1024x128, .i1⟩
  | 8 => ⟨S128x128, .f32⟩
  | 9 => ⟨S128x128, .f32⟩
  | 10 => ⟨S128x128, .f32⟩
  | 11 => ⟨S128, .f32⟩
  | 12 => ⟨S512x257, .f32⟩
  | 13 => ⟨S512x128, .f32⟩
  | 14 => ⟨S512, .f32⟩
  | 15 => ⟨S512, .f32⟩
  | 16 => ⟨S512x256, .f32⟩
  | 17 => ⟨S512, .f32⟩
  | 18 => ⟨S512x128, .f32⟩
  | 19 => ⟨S_, .f32⟩
  | 20 => ⟨S1024x128, .f32⟩
  | 21 => ⟨S1024x128, .f32⟩
  | 22 => ⟨S1024x1x128, .f32⟩
  | 23 => ⟨S1024x128x128, .f32⟩
  | 24 => ⟨S1024x128x128, .f32⟩
  | 25 => ⟨S128x128, .f32⟩
  | 26 => ⟨S1024x128, .f32⟩
  | 27 => ⟨S128x128, .f32⟩
  | 28 => ⟨S1024x128x128, .f32⟩
  | 29 => ⟨S1024x128, .f32⟩
  | 30 => ⟨S128x128, .f32⟩
  | 31 => ⟨S1024x128, .f32⟩
  | 32 => ⟨S1x128, .f32⟩
  | 33 => ⟨S1024x128, .f32⟩
  | 34 => ⟨S1024x128, .f32⟩
  | 35 => ⟨S1024x128, .i1⟩
  | 36 => ⟨S_, .i1⟩
  | 37 => ⟨S1024, .i1⟩
  | 38 => ⟨S1024x128, .i1⟩
  | 39 => ⟨S1024x128, .f32⟩
  | 40 => ⟨S1024x128, .i32⟩
  | 41 => ⟨S_, .f32⟩
  | 42 => ⟨S_, .i32⟩
  | 43 => ⟨S1024, .f32⟩
  | 44 => ⟨S1024, .i32⟩
  | 45 => ⟨S1024x128, .i32⟩
  | 46 => ⟨S_, .f32⟩
  | 47 => ⟨S_, .i32⟩
  | 48 => ⟨S1024, .f32⟩
  | 49 => ⟨S1024, .i32⟩
  | 50 => ⟨S1024, .i32⟩
  | 51 => ⟨S1024, .i32⟩
  | 52 => ⟨S_, .i32⟩
  | 53 => ⟨S1024, .i32⟩
  | 54 => ⟨S1024, .i1⟩
  | 55 => ⟨S_, .i32⟩
  | 56 => ⟨S1024, .i32⟩
  | 57 => ⟨S1024, .i32⟩
  | 58 => ⟨S1024, .i32⟩
  | 59 => ⟨S_, .i32⟩
  | 60 => ⟨S1024, .i32⟩
  | 61 => ⟨S1024, .i1⟩
  | 62 => ⟨S_, .i32⟩
  | 63 => ⟨S1024, .i32⟩
  | 64 => ⟨S1024, .i32⟩
  | 65 => ⟨S1024, .i32⟩
  | 66 => ⟨S1024x1, .i32⟩
  | 67 => ⟨S1024x1, .i32⟩
  | 68 => ⟨S1024x2, .i32⟩
  | 69 => ⟨S1024x128x128, .f32⟩
  | 70 => ⟨S_, .i32⟩
  | 71 => ⟨S1024, .i32⟩
  | 72 => ⟨S1024, .i1⟩
  | 73 => ⟨S_, .i32⟩
  | 74 => ⟨S1024, .i32⟩
  | 75 => ⟨S1024, .i32⟩
  | 76 => ⟨S1024, .i32⟩
  | 77 => ⟨S_, .i32⟩
  | 78 => ⟨S1024, .i32⟩
  | 79 => ⟨S1024, .i1⟩
  | 80 => ⟨S_, .i32⟩
  | 81 => ⟨S1024, .i32⟩
  | 82 => ⟨S1024, .i32⟩
  | 83 => ⟨S1024, .i32⟩
  | 84 => ⟨S1024x1, .i32⟩
  | 85 => ⟨S1024x1, .i32⟩
  | 86 => ⟨S1024x2, .i32⟩
  | 87 => ⟨S1024x128x128, .f32⟩
  | 88 => ⟨S_, .i32⟩
  | 89 => ⟨S1024, .i32⟩
  | 90 => ⟨S1024, .i1⟩
  | 91 => ⟨S_, .i32⟩
  | 92 => ⟨S1024, .i32⟩
  | 93 => ⟨S1024, .i32⟩
  | 94 => ⟨S1024, .i32⟩
  | 95 => ⟨S_, .i32⟩
  | 96 => ⟨S1024, .i32⟩
  | 97 => ⟨S1024, .i1⟩
  | 98 => ⟨S_, .i32⟩
  | 99 => ⟨S1024, .i32⟩
  | 100 => ⟨S1024, .i32⟩
  | 101 => ⟨S1024, .i32⟩
  | 102 => ⟨S1024x1, .i32⟩
  | 103 => ⟨S1024x1, .i32⟩
  | 104 => ⟨S1024x2, .i32⟩
  | 105 => ⟨S_, .f32⟩
  | 106 => ⟨S1024, .f32⟩
  | 107 => ⟨S1024x128, .f32⟩
  | 108 => ⟨S_, .i32⟩
  | 109 => ⟨S1024, .i32⟩
  | 110 => ⟨S1024, .i1⟩
  | 111 => ⟨S_, .i32⟩
  | 112 => ⟨S1024, .i32⟩
  | 113 => ⟨S1024, .i32⟩
  | 114 => ⟨S1024, .i32⟩
  | 115 => ⟨S_, .i32⟩
  | 116 => ⟨S1024, .i32⟩
  | 117 => ⟨S1024, .i1⟩
  | 118 => ⟨S_, .i32⟩
  | 119 => ⟨S1024, .i32⟩
  | 120 => ⟨S1024, .i32⟩
  | 121 => ⟨S1024, .i32⟩
  | 122 => ⟨S1024x1, .i32⟩
  | 123 => ⟨S1024x1, .i32⟩
  | 124 => ⟨S1024x2, .i32⟩
  | 125 => ⟨S_, .i1⟩
  | 126 => ⟨S1024, .i1⟩
  | 127 => ⟨S1024x128, .i1⟩
  | _ => ⟨S1024x128, .f32⟩

abbrev hbmTy0_1 (i : Nat) : BufTy := match i % 128 with
  | 0 => ⟨S1024x128x1, .f32⟩
  | 1 => ⟨S1024x128x257, .f32⟩
  | 2 => ⟨S_, .f32⟩
  | 3 => ⟨S1024x128, .f32⟩
  | 4 => ⟨S_, .f32⟩
  | 5 => ⟨S1024x128, .f32⟩
  | 6 => ⟨S128x1024x257, .f32⟩
  | 7 => ⟨S_, .i32⟩
  | 8 => ⟨S128x1024x257, .f32⟩
  | 9 => ⟨S512x257, .f32⟩
  | 10 => ⟨S512, .f32⟩
  | 11 => ⟨S512x128, .f32⟩
  | 12 => ⟨S512, .f32⟩
  | 13 => ⟨S_, .i32⟩
  | 14 => ⟨S1024x128, .f32⟩
  | 15 => ⟨S1024x128, .f32⟩
  | 16 => ⟨S_, .i32⟩
  | 17 => ⟨S_, .i1⟩
  | 18 => ⟨S_, .i32⟩
  | 19 => ⟨S_, .i32⟩
  | 20 => ⟨S1x1024x257, .f32⟩
  | 21 => ⟨S1024x257, .f32⟩
  | 22 => ⟨S257x512, .f32⟩
  | 23 => ⟨S1024x512, .f32⟩
  | 24 => ⟨S1x512, .f32⟩
  | 25 => ⟨S1024x512, .f32⟩
  | 26 => ⟨S1024x512, .f32⟩
  | 27 => ⟨S128x512, .f32⟩
  | 28 => ⟨S1024x512, .f32⟩
  | 29 => ⟨S1024x512, .f32⟩
  | 30 => ⟨S1x512, .f32⟩
  | 31 => ⟨S1024x512, .f32⟩
  | 32 => ⟨S1024x512, .f32⟩
  | 33 => ⟨S1024x128, .f32⟩
  | 34 => ⟨S1024x128, .f32⟩
  | 35 => ⟨S1024x128, .f32⟩
  | 36 => ⟨S1024x128, .f32⟩
  | 37 => ⟨S1024x128, .f32⟩
  | 38 => ⟨S1024x128, .f32⟩
  | 39 => ⟨S_, .f32⟩
  | 40 => ⟨S1024x128, .f32⟩
  | 41 => ⟨S1024x128, .f32⟩
  | 42 => ⟨S_, .f32⟩
  | 43 => ⟨S1024x128, .f32⟩
  | 44 => ⟨S1024x128, .f32⟩
  | 45 => ⟨S1024x128, .f32⟩
  | 46 => ⟨S1024x128, .f32⟩
  | 47 => ⟨S1024x128, .f32⟩
  | 48 => ⟨S_, .f32⟩
  | 49 => ⟨S1024x128, .f32⟩
  | 50 => ⟨S1024x128, .f32⟩
  | 51 => ⟨S_, .f32⟩
  | 52 => ⟨S1024x128, .f32⟩
  | 53 => ⟨S1024x128, .f32⟩
  | 54 => ⟨S1024x128, .f32⟩
  | 55 => ⟨S1024x128, .f32⟩
  | 56 => ⟨S1024x128, .f32⟩
  | 57 => ⟨S1024x128, .f32⟩
  | 58 => ⟨S1024x128, .f32⟩
  | 59 => ⟨S_, .f32⟩
  | 60 => ⟨S1024x128, .f32⟩
  | 61 => ⟨S1024x128, .f32⟩
  | 62 => ⟨S_, .f32⟩
  | 63 => ⟨S1024x128, .f32⟩
  | 64 => ⟨S1024x128, .f32⟩
  | 65 => ⟨S1024x128, .f32⟩
  | 66 => ⟨S1024x128, .f32⟩
  | 67 => ⟨S_, .i32⟩
  | 68 => ⟨S_, .i32⟩
  | 69 => ⟨S1024x256, .f32⟩
  | 70 => ⟨S256x512, .f32⟩
  | 71 => ⟨S1024x512, .f32⟩
  | 72 => ⟨S1x512, .f32⟩
  | 73 => ⟨S1024x512, .f32⟩
  | 74 => ⟨S1024x512, .f32⟩
  | 75 => ⟨S128x512, .f32⟩
  | 76 => ⟨S1024x512, .f32⟩
  | 77 => ⟨S1024x512, .f32⟩
  | 78 => ⟨S1024x128, .f32⟩
  | 79 => ⟨S1024x128, .f32⟩
  | 80 => ⟨S1024x128, .f32⟩
  | 81 => ⟨S1024x128, .f32⟩
  | 82 => ⟨S1024x128, .f32⟩
  | 83 => ⟨S1024x128, .f32⟩
  | 84 => ⟨S_, .f32⟩
  | 85 => ⟨S1024x128, .f32⟩
  | 86 => ⟨S1024x128, .f32⟩
  | 87 => ⟨S_, .f32⟩
  | 88 => ⟨S1024x128, .f32⟩
  | 89 => ⟨S1024x128, .f32⟩
  | 90 => ⟨S1024x128, .f32⟩
  | 91 => ⟨S1024x128, .f32⟩
  | 92 => ⟨S1024x128, .f32⟩
  | 93 => ⟨S_, .f32⟩
  | 94 => ⟨S1024x128, .f32⟩
  | 95 => ⟨S1024x128, .f32⟩
  | 96 => ⟨S_, .f32⟩
  | 97 => ⟨S1024x128, .f32⟩
  | 98 => ⟨S1024x128, .f32⟩
  | 99 => ⟨S1024x128, .f32⟩
  | 100 => ⟨S1024x128, .f32⟩
  | 101 => ⟨S1024x128, .f32⟩
  | 102 => ⟨S1024x128, .f32⟩
  | 103 => ⟨S1024x128, .f32⟩
  | 104 => ⟨S_, .f32⟩
  | 105 => ⟨S1024x128, .f32⟩
  | 106 => ⟨S1024x128, .f32⟩
  | 107 => ⟨S_, .f32⟩
  | 108 => ⟨S1024x128, .f32⟩
  | 109 => ⟨S1024x128, .f32⟩
  | 110 => ⟨S1024x128, .f32⟩
  | 111 => ⟨S1024x128, .f32⟩
  | _ => ⟨S1024x128, .f32⟩

abbrev hbmTy (i : Nat) : BufTy := match i / 128 with
  | 0 => hbmTy0_0 i
  | 1 => hbmTy0_1 i
  | _ => ⟨S1024x128, .f32⟩

abbrev bufTy : (tb : Table) → Fin (tcTables nBuf tb) → BufTy
  | .hbm, ⟨i, _⟩ => hbmTy i
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_call0_v0 : Ref sig .tc := ⟨.hbm, 40, rfl⟩
abbrev main_call0_cst : Ref sig .tc := ⟨.hbm, 41, rfl⟩
abbrev main_call0_c : Ref sig .tc := ⟨.hbm, 42, rfl⟩
abbrev main_call0_v1_0 : Ref sig .tc := ⟨.hbm, 43, rfl⟩
abbrev main_v19 : Ref sig .tc := ⟨.hbm, 44, rfl⟩
abbrev main_call1_v0 : Ref sig .tc := ⟨.hbm, 45, rfl⟩
abbrev main_call1_cst : Ref sig .tc := ⟨.hbm, 46, rfl⟩
abbrev main_call1_c : Ref sig .tc := ⟨.hbm, 47, rfl⟩
abbrev main_call1_v1_0 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_c_0 : Ref sig .tc := ⟨.hbm, 52, rfl⟩
abbrev main_v23 : Ref sig .tc := ⟨.hbm, 53, rfl⟩
abbrev main_v24 : Ref sig .tc := ⟨.hbm, 54, rfl⟩
abbrev main_c_1 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_c_2 : Ref sig .tc := ⟨.hbm, 59, rfl⟩
abbrev main_v28 : Ref sig .tc := ⟨.hbm, 60, rfl⟩
abbrev main_v29 : Ref sig .tc := ⟨.hbm, 61, rfl⟩
abbrev main_c_3 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_c_4 : Ref sig .tc := ⟨.hbm, 70, rfl⟩
abbrev main_v37 : Ref sig .tc := ⟨.hbm, 71, rfl⟩
abbrev main_v38 : Ref sig .tc := ⟨.hbm, 72, rfl⟩
abbrev main_c_5 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_c_6 : Ref sig .tc := ⟨.hbm, 77, rfl⟩
abbrev main_v42 : Ref sig .tc := ⟨.hbm, 78, rfl⟩
abbrev main_v43 : Ref sig .tc := ⟨.hbm, 79, rfl⟩
abbrev main_c_7 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_c_8 : Ref sig .tc := ⟨.hbm, 88, rfl⟩
abbrev main_v51 : Ref sig .tc := ⟨.hbm, 89, rfl⟩
abbrev main_v52 : Ref sig .tc := ⟨.hbm, 90, rfl⟩
abbrev main_c_9 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_c_10 : Ref sig .tc := ⟨.hbm, 95, rfl⟩
abbrev main_v56 : Ref sig .tc := ⟨.hbm, 96, rfl⟩
abbrev main_v57 : Ref sig .tc := ⟨.hbm, 97, rfl⟩
abbrev main_c_11 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_12 : Ref sig .tc := ⟨.hbm, 105, rfl⟩
abbrev main_v64 : Ref sig .tc := ⟨.hbm, 106, rfl⟩
abbrev main_v65 : Ref sig .tc := ⟨.hbm, 107, rfl⟩
abbrev main_c_13 : Ref sig .tc := ⟨.hbm, 108, rfl⟩
abbrev main_v66 : Ref sig .tc := ⟨.hbm, 109, rfl⟩
abbrev main_v67 : Ref sig .tc := ⟨.hbm, 110, rfl⟩
abbrev main_c_14 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_c_15 : Ref sig .tc := ⟨.hbm, 115, rfl⟩
abbrev main_v71 : Ref sig .tc := ⟨.hbm, 116, rfl⟩
abbrev main_v72 : Ref sig .tc := ⟨.hbm, 117, rfl⟩
abbrev main_c_16 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_c_17 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_18 : Ref sig .tc := ⟨.hbm, 130, rfl⟩
abbrev main_v83 : Ref sig .tc := ⟨.hbm, 131, rfl⟩
abbrev main_cst_19 : Ref sig .tc := ⟨.hbm, 132, rfl⟩
abbrev main_v84 : Ref sig .tc := ⟨.hbm, 133, rfl⟩
abbrev main_v85 : Ref sig .tc := ⟨.hbm, 134, rfl⟩
abbrev main_c_20 : Ref sig .tc := ⟨.hbm, 135, rfl⟩
abbrev main_v86_0 : Ref sig .tc := ⟨.hbm, 136, rfl⟩
abbrev main_v86_1 : Ref sig .tc := ⟨.hbm, 137, rfl⟩
abbrev main_v86_2 : Ref sig .tc := ⟨.hbm, 138, rfl⟩
abbrev main_v86_3 : Ref sig .tc := ⟨.hbm, 139, rfl⟩
abbrev main_v86_4 : Ref sig .tc := ⟨.hbm, 140, rfl⟩
abbrev main_v86_5 : Ref sig .tc := ⟨.hbm, 141, rfl⟩
abbrev main_v86_6 : Ref sig .tc := ⟨.hbm, 142, rfl⟩
abbrev main_v86_7 : Ref sig .tc := ⟨.hbm, 143, rfl⟩
abbrev main_while0c_c_34 : Ref sig .tc := ⟨.hbm, 144, rfl⟩
abbrev main_while0c_v124 : Ref sig .tc := ⟨.hbm, 145, rfl⟩
abbrev main_while0b_call3_c : Ref sig .tc := ⟨.hbm, 146, rfl⟩
abbrev main_while0b_call3_c_0 : Ref sig .tc := ⟨.hbm, 147, rfl⟩
abbrev main_while0b_call3_v0 : Ref sig .tc := ⟨.hbm, 148, rfl⟩
abbrev main_while0b_v124 : Ref sig .tc := ⟨.hbm, 149, rfl⟩
abbrev main_while0b_v125 : Ref sig .tc := ⟨.hbm, 150, rfl⟩
abbrev main_while0b_v126 : Ref sig .tc := ⟨.hbm, 151, rfl⟩
abbrev main_while0b_v127 : Ref sig .tc := ⟨.hbm, 152, rfl⟩
abbrev main_while0b_v128 : Ref sig .tc := ⟨.hbm, 153, rfl⟩
abbrev main_while0b_v129 : Ref sig .tc := ⟨.hbm, 154, rfl⟩
abbrev main_while0b_v130 : Ref sig .tc := ⟨.hbm, 155, rfl⟩
abbrev main_while0b_v131 : Ref sig .tc := ⟨.hbm, 156, rfl⟩
abbrev main_while0b_v132 : Ref sig .tc := ⟨.hbm, 157, rfl⟩
abbrev main_while0b_v133 : Ref sig .tc := ⟨.hbm, 158, rfl⟩
abbrev main_while0b_v134 : Ref sig .tc := ⟨.hbm, 159, rfl⟩
abbrev main_while0b_v135 : Ref sig .tc := ⟨.hbm, 160, rfl⟩
abbrev main_while0b_v136 : Ref sig .tc := ⟨.hbm, 161, rfl⟩
abbrev main_while0b_v137 : Ref sig .tc := ⟨.hbm, 162, rfl⟩
abbrev main_while0b_v138 : Ref sig .tc := ⟨.hbm, 163, rfl⟩
abbrev main_while0b_v139 : Ref sig .tc := ⟨.hbm, 164, rfl⟩
abbrev main_while0b_v140 : Ref sig .tc := ⟨.hbm, 165, rfl⟩
abbrev main_while0b_v141 : Ref sig .tc := ⟨.hbm, 166, rfl⟩
abbrev main_while0b_cst_34 : Ref sig .tc := ⟨.hbm, 167, rfl⟩
abbrev main_while0b_v142 : Ref sig .tc := ⟨.hbm, 168, rfl⟩
abbrev main_while0b_v143 : Ref sig .tc := ⟨.hbm, 169, rfl⟩
abbrev main_while0b_cst_35 : Ref sig .tc := ⟨.hbm, 170, rfl⟩
abbrev main_while0b_v144 : Ref sig .tc := ⟨.hbm, 171, rfl⟩
abbrev main_while0b_v145 : Ref sig .tc := ⟨.hbm, 172, rfl⟩
abbrev main_while0b_v146 : Ref sig .tc := ⟨.hbm, 173, rfl⟩
abbrev main_while0b_v147 : Ref sig .tc := ⟨.hbm, 174, rfl⟩
abbrev main_while0b_v148 : Ref sig .tc := ⟨.hbm, 175, rfl⟩
abbrev main_while0b_cst_36 : Ref sig .tc := ⟨.hbm, 176, rfl⟩
abbrev main_while0b_v149 : Ref sig .tc := ⟨.hbm, 177, rfl⟩
abbrev main_while0b_v150 : Ref sig .tc := ⟨.hbm, 178, rfl⟩
abbrev main_while0b_cst_37 : Ref sig .tc := ⟨.hbm, 179, rfl⟩
abbrev main_while0b_v151 : Ref sig .tc := ⟨.hbm, 180, rfl⟩
abbrev main_while0b_v152 : Ref sig .tc := ⟨.hbm, 181, rfl⟩
abbrev main_while0b_v153 : Ref sig .tc := ⟨.hbm, 182, rfl⟩
abbrev main_while0b_v154 : Ref sig .tc := ⟨.hbm, 183, rfl⟩
abbrev main_while0b_v155 : Ref sig .tc := ⟨.hbm, 184, rfl⟩
abbrev main_while0b_v156 : Ref sig .tc := ⟨.hbm, 185, rfl⟩
abbrev main_while0b_v157 : Ref sig .tc := ⟨.hbm, 186, rfl⟩
abbrev main_while0b_cst_38 : Ref sig .tc := ⟨.hbm, 187, rfl⟩
abbrev main_while0b_v158 : Ref sig .tc := ⟨.hbm, 188, rfl⟩
abbrev main_while0b_v159 : Ref sig .tc := ⟨.hbm, 189, rfl⟩
abbrev main_while0b_cst_39 : Ref sig .tc := ⟨.hbm, 190, rfl⟩
abbrev main_while0b_v160 : Ref sig .tc := ⟨.hbm, 191, rfl⟩
abbrev main_while0b_v161 : Ref sig .tc := ⟨.hbm, 192, rfl⟩
abbrev main_while0b_v162 : Ref sig .tc := ⟨.hbm, 193, rfl⟩
abbrev main_while0b_v163 : Ref sig .tc := ⟨.hbm, 194, rfl⟩
abbrev main_while0b_c_40 : Ref sig .tc := ⟨.hbm, 195, rfl⟩
abbrev main_while0b_v164 : Ref sig .tc := ⟨.hbm, 196, rfl⟩
abbrev main_v87 : Ref sig .tc := ⟨.hbm, 197, rfl⟩
abbrev main_v88 : Ref sig .tc := ⟨.hbm, 198, rfl⟩
abbrev main_v89 : Ref sig .tc := ⟨.hbm, 199, rfl⟩
abbrev main_v90 : Ref sig .tc := ⟨.hbm, 200, rfl⟩
abbrev main_v91 : Ref sig .tc := ⟨.hbm, 201, rfl⟩
abbrev main_v92 : Ref sig .tc := ⟨.hbm, 202, rfl⟩
abbrev main_v93 : Ref sig .tc := ⟨.hbm, 203, rfl⟩
abbrev main_v94 : Ref sig .tc := ⟨.hbm, 204, rfl⟩
abbrev main_v95 : Ref sig .tc := ⟨.hbm, 205, rfl⟩
abbrev main_v96 : Ref sig .tc := ⟨.hbm, 206, rfl⟩
abbrev main_v97 : Ref sig .tc := ⟨.hbm, 207, rfl⟩
abbrev main_v98 : Ref sig .tc := ⟨.hbm, 208, rfl⟩
abbrev main_v99 : Ref sig .tc := ⟨.hbm, 209, rfl⟩
abbrev main_v100 : Ref sig .tc := ⟨.hbm, 210, rfl⟩
abbrev main_v101 : Ref sig .tc := ⟨.hbm, 211, rfl⟩
abbrev main_cst_21 : Ref sig .tc := ⟨.hbm, 212, rfl⟩
abbrev main_v102 : Ref sig .tc := ⟨.hbm, 213, rfl⟩
abbrev main_v103 : Ref sig .tc := ⟨.hbm, 214, rfl⟩
abbrev main_cst_22 : Ref sig .tc := ⟨.hbm, 215, rfl⟩
abbrev main_v104 : Ref sig .tc := ⟨.hbm, 216, rfl⟩
abbrev main_v105 : Ref sig .tc := ⟨.hbm, 217, rfl⟩
abbrev main_v106 : Ref sig .tc := ⟨.hbm, 218, rfl⟩
abbrev main_v107 : Ref sig .tc := ⟨.hbm, 219, rfl⟩
abbrev main_v108 : Ref sig .tc := ⟨.hbm, 220, rfl⟩
abbrev main_cst_23 : Ref sig .tc := ⟨.hbm, 221, rfl⟩
abbrev main_v109 : Ref sig .tc := ⟨.hbm, 222, rfl⟩
abbrev main_v110 : Ref sig .tc := ⟨.hbm, 223, rfl⟩
abbrev main_cst_24 : Ref sig .tc := ⟨.hbm, 224, rfl⟩
abbrev main_v111 : Ref sig .tc := ⟨.hbm, 225, rfl⟩
abbrev main_v112 : Ref sig .tc := ⟨.hbm, 226, rfl⟩
abbrev main_v113 : Ref sig .tc := ⟨.hbm, 227, rfl⟩
abbrev main_v114 : Ref sig .tc := ⟨.hbm, 228, rfl⟩
abbrev main_v115 : Ref sig .tc := ⟨.hbm, 229, rfl⟩
abbrev main_v116 : Ref sig .tc := ⟨.hbm, 230, rfl⟩
abbrev main_v117 : Ref sig .tc := ⟨.hbm, 231, rfl⟩
abbrev main_cst_25 : Ref sig .tc := ⟨.hbm, 232, rfl⟩
abbrev main_v118 : Ref sig .tc := ⟨.hbm, 233, rfl⟩
abbrev main_v119 : Ref sig .tc := ⟨.hbm, 234, rfl⟩
abbrev main_cst_26 : Ref sig .tc := ⟨.hbm, 235, rfl⟩
abbrev main_v120 : Ref sig .tc := ⟨.hbm, 236, rfl⟩
abbrev main_v121 : Ref sig .tc := ⟨.hbm, 237, rfl⟩
abbrev main_v122 : Ref sig .tc := ⟨.hbm, 238, rfl⟩
abbrev main_v123 : Ref sig .tc := ⟨.hbm, 239, rfl⟩

abbrev nD : Nat := 1
abbrev τ : Topo := Topo.v7x

variable {F : FTy → Type} [FloatOps F]

abbrev main_while0_count : Scf.Loop 32 := ⟨0#32, 128#32, 1#32⟩
-- ==== Proof.Mem.lean ====
/- Region 0 of the kernel program (the memory kernel), for any float operations: what each grid point reads, what it leaves in
   each output's buffer, and the kernel body's obligation at every point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))
/-! # REGION 0 of @main: custom_call 0, `cc0__memory_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S64x128 := Rect.unit (s := S64x128) ![0, 0] S64x128.size inb_S64x128_S64x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0
abbrev r0_3 : Rect S64x128x128 := Rect.unit (s := S64x128x128) ![0, 0, 0] S64x16x128.size inb_S64x128x128_S64x16x128_0_0_0
abbrev r0_4 : Rect S64x128x128 := Rect.unit (s := S64x128x128) ![0, 16, 0] S64x16x128.size inb_S64x128x128_S64x16x128_0_16_0
abbrev r0_5 : Rect S64x128x128 := Rect.unit (s := S64x128x128) ![0, 32, 0] S64x16x128.size inb_S64x128x128_S64x16x128_0_32_0
abbrev r0_6 : Rect S64x128x128 := Rect.unit (s := S64x128x128) ![0, 48, 0] S64x16x128.size inb_S64x128x128_S64x16x128_0_48_0
abbrev r0_7 : Rect S64x128x128 := Rect.unit (s := S64x128x128) ![0, 64, 0] S64x16x128.size inb_S64x128x128_S64x16x128_0_64_0
abbrev r0_8 : Rect S64x128x128 := Rect.unit (s := S64x128x128) ![0, 80, 0] S64x16x128.size inb_S64x128x128_S64x16x128_0_80_0
abbrev r0_9 : Rect S64x128x128 := Rect.unit (s := S64x128x128) ![0, 96, 0] S64x16x128.size inb_S64x128x128_S64x16x128_0_96_0
abbrev r0_10 : Rect S64x128x128 := Rect.unit (s := S64x128x128) ![0, 112, 0] S64x16x128.size inb_S64x128x128_S64x16x128_0_112_0
abbrev r0_11 : Rect S128x512 := Rect.unit (s := S128x512) ![0, 0] S128x512.size inb_S128x512_S128x512_0_0
abbrev r0_12 : Rect S1x1x512 := Rect.unit (s := S1x1x512) ![0, 0, 0] S1x1x512.size inb_S1x1x512_S1x1x512_0_0_0
abbrev r0_13 : Rect S128x64x512 := Rect.unit (s := S128x64x512) ![0, 0, 0] S16x64x512.size inb_S128x64x512_S16x64x512_0_0_0
abbrev r0_14 : Rect S128x64x512 := Rect.unit (s := S128x64x512) ![16, 0, 0] S16x64x512.size inb_S128x64x512_S16x64x512_16_0_0
abbrev r0_15 : Rect S128x64x512 := Rect.unit (s := S128x64x512) ![32, 0, 0] S16x64x512.size inb_S128x64x512_S16x64x512_32_0_0
abbrev r0_16 : Rect S128x64x512 := Rect.unit (s := S128x64x512) ![48, 0, 0] S16x64x512.size inb_S128x64x512_S16x64x512_48_0_0
abbrev r0_17 : Rect S128x64x512 := Rect.unit (s := S128x64x512) ![64, 0, 0] S16x64x512.size inb_S128x64x512_S16x64x512_64_0_0
abbrev r0_18 : Rect S128x64x512 := Rect.unit (s := S128x64x512) ![80, 0, 0] S16x64x512.size inb_S128x64x512_S16x64x512_80_0_0
abbrev r0_19 : Rect S128x64x512 := Rect.unit (s := S128x64x512) ![96, 0, 0] S16x64x512.size inb_S128x64x512_S16x64x512_96_0_0
abbrev r0_20 : Rect S128x64x512 := Rect.unit (s := S128x64x512) ![112, 0, 0] S16x64x512.size inb_S128x64x512_S16x64x512_112_0_0

/-! ## What the body leaves in each output window's buffer -/

/-! ### Values of the body that the stores' payloads, spelt out, would write more than once

    Each is a vector the body binds (often a part call's result), stated over the input windows' blocks and
    numbered on from the skeleton's payload functions (`k0_pay73` …, after `k0_pay72`), so that
    `out0_W` and the values after it name it instead of spelling it out (`unfold_out out0_W` opens a canon
    with them, `unfold_payloads` opens them with the payloads); the comment after each is the printed function's
    name for the value (a count appended where that name is bound again). -/

def k0_pay73 (x0 : Vec F S64x128 .f32) (x1 : Vec F S64x128x128 .f32) (x2 : Vec F S64x128x128 .f32) (x3 : Vec F S64x128 .f32) (x4 : Vec F S128x128 .f32) (x5 : Vec F S128x128 .f32) (x6 : Vec F S128x128 .f32) (x7 : Vec F S1x128 .f32) (x8 : Vec F S128x512 .bf16) (x9 : Vec F S128x512 .bf16) (x10 : Vec F S1x1x512 .f32) (x11 : Vec F S1x1x512 .f32) : FVec F S64x1x128 .f32 :=
  k0_pay2 (View.ld x0 r0_0) -- `v1`
def k0_pay74 (x0 : Vec F S64x128 .f32) (x1 : Vec F S64x128x128 .f32) (x2 : Vec F S64x128x128 .f32) (x3 : Vec F S64x128 .f32) (x4 : Vec F S128x128 .f32) (x5 : Vec F S128x128 .f32) (x6 : Vec F S128x128 .f32) (x7 : Vec F S1x128 .f32) (x8 : Vec F S128x512 .bf16) (x9 : Vec F S128x512 .bf16) (x10 : Vec F S1x1x512 .f32) (x11 : Vec F S1x1x512 .f32) : FVec F S64x128 .f32 :=
  k0_pay3 (View.ld x0 r0_0) (View.ld x6 r0_1) (View.ld x7 r0_2) -- `v11`
def k0_pay75 (x0 : Vec F S64x128 .f32) (x1 : Vec F S64x128x128 .f32) (x2 : Vec F S64x128x128 .f32) (x3 : Vec F S64x128 .f32) (x4 : Vec F S128x128 .f32) (x5 : Vec F S128x128 .f32) (x6 : Vec F S128x128 .f32) (x7 : Vec F S1x128 .f32) (x8 : Vec F S128x512 .bf16) (x9 : Vec F S128x512 .bf16) (x10 : Vec F S1x1x512 .f32) (x11 : Vec F S1x1x512 .f32) : FVec F S64x128 .f32 :=
  k0_pay4 (View.ld x0 r0_0) (View.ld x4 r0_1) -- `v13`
def k0_pay76 (x0 : Vec F S64x128 .f32) (x1 : Vec F S64x128x128 .f32) (x2 : Vec F S64x128x128 .f32) (x3 : Vec F S64x128 .f32) (x4 : Vec F S128x128 .f32) (x5 : Vec F S128x128 .f32) (x6 : Vec F S128x128 .f32) (x7 : Vec F S1x128 .f32) (x8 : Vec F S128x512 .bf16) (x9 : Vec F S128x512 .bf16) (x10 : Vec F S1x1x512 .f32) (x11 : Vec F S1x1x512 .f32) : FVec F S64x128 .f32 :=
  k0_pay12 (k0_pay75 x0 x1 x2 x3 x4 x5 x6 x7 x8 x9 x10 x11) (k0_pay5 (View.ld x0 r0_0) (View.ld x4 r0_1) (View.ld x1 r0_3) (View.ld x5 r0_1)) (k0_pay8 (k0_pay6 (View.ld x1 r0_4) (View.ld x5 r0_1)) (k0_pay7 (View.ld x0 r0_0) (View.ld x4 r0_1))) (k0_pay9 (k0_pay75 x0 x1 x2 x3 x4 x5 x6 x7 x8 x9 x10 x11) (View.ld x1 r0_5) (View.ld x5 r0_1)) (k0_pay10 (k0_pay75 x0 x1 x2 x3 x4 x5 x6 x7 x8 x9 x10 x11) (View.ld x1 r0_6) (View.ld x5 r0_1)) (k0_pay11 (k0_pay75 x0 x1 x2 x3 x4 x5 x6 x7 x8 x9 x10 x11) (View.ld x1 r0_7) (View.ld x5 r0_1)) (View.ld x1 r0_8) (View.ld x5 r0_1) (View.ld x1 r0_9) (View.ld x5 r0_1) (View.ld x1 r0_10) (View.ld x5 r0_1) -- `v110`
def k0_pay77 (x0 : Vec F S64x128 .f32) (x1 : Vec F S64x128x128 .f32) (x2 : Vec F S64x128x128 .f32) (x3 : Vec F S64x128 .f32) (x4 : Vec F S128x128 .f32) (x5 : Vec F S128x128 .f32) (x6 : Vec F S128x128 .f32) (x7 : Vec F S1x128 .f32) (x8 : Vec F S128x512 .bf16) (x9 : Vec F S128x512 .bf16) (x10 : Vec F S1x1x512 .f32) (x11 : Vec F S1x1x512 .f32) : FVec F S64x128 .f32 :=
  k0_pay13 (F := F) -- `v112`
def k0_pay78 (x0 : Vec F S64x128 .f32) (x1 : Vec F S64x128x128 .f32) (x2 : Vec F S64x128x128 .f32) (x3 : Vec F S64x128 .f32) (x4 : Vec F S128x128 .f32) (x5 : Vec F S128x128 .f32) (x6 : Vec F S128x128 .f32) (x7 : Vec F S1x128 .f32) (x8 : Vec F S128x512 .bf16) (x9 : Vec F S128x512 .bf16) (x10 : Vec F S1x1x512 .f32) (x11 : Vec F S1x1x512 .f32) : FVec F S64x128 .f32 :=
  k0_pay14 (k0_pay76 x0 x1 x2 x3 x4 x5 x6 x7 x8 x9 x10 x11) (k0_pay77 x0 x1 x2 x3 x4 x5 x6 x7 x8 x9 x10 x11) -- `v124`
def k0_pay79 (x0 : Vec F S64x128 .f32) (x1 : Vec F S64x128x128 .f32) (x2 : Vec F S64x128x128 .f32) (x3 : Vec F S64x128 .f32) (x4 : Vec F S128x128 .f32) (x5 : Vec F S128x128 .f32) (x6 : Vec F S128x128 .f32) (x7 : Vec F S1x128 .f32) (x8 : Vec F S128x512 .bf16) (x9 : Vec F S128x512 .bf16) (x10 : Vec F S1x1x512 .f32) (x11 : Vec F S1x1x512 .f32) : FVec F S64x128 .f32 :=
  k0_pay15 (k0_pay76 x0 x1 x2 x3 x4 x5 x6 x7 x8 x9 x10 x11) (k0_pay77 x0 x1 x2 x3 x4 x5 x6 x7 x8 x9 x10 x11) -- `v126`
def k0_pay80 (x0 : Vec F S64x128 .f32) (x1 : Vec F S64x128x128 .f32) (x2 : Vec F S64x128x128 .f32) (x3 : Vec F S64x128 .f32) (x4 : Vec F S128x128 .f32) (x5 : Vec F S128x128 .f32) (x6 : Vec F S128x128 .f32) (x7 : Vec F S1x128 .f32) (x8 : Vec F S128x512 .bf16) (x9 : Vec F S128x512 .bf16) (x10 : Vec F S1x1x512 .f32) (x11 : Vec F S1x1x512 .f32) : FVec F S64x128 .f32 :=
  k0_pay16 (k0_pay76 x0 x1 x2 x3 x4 x5 x6 x7 x8 x9 x10 x11) (k0_pay77 x0 x1 x2 x3 x4 x5 x6 x7 x8 x9 x10 x11) (View.ld x3 r0_0) -- `v130`
def k0_pay81 (x0 : Vec F S64x128 .f32) (x1 : Vec F S64x128x128 .f32) (x2 : Vec F S64x128x128 .f32) (x3 : Vec F S64x128 .f32) (x4 : Vec F S128x128 .f32) (x5 : Vec F S128x128 .f32) (x6 : Vec F S128x128 .f32) (x7 : Vec F S1x128 .f32) (x8 : Vec F S128x512 .bf16) (x9 : Vec F S128x512 .bf16) (x10 : Vec F S1x1x512 .f32) (x11 : Vec F S1x1x512 .f32) : FVec F S128x512 .bf16 :=
  k0_pay17 (View.ld x8 r0_11) -- `v133`
def k0_pay82 (x0 : Vec F S64x128 .f32) (x1 : Vec F S64x128x128 .f32) (x2 : Vec F S64x128x128 .f32) (x3 : Vec F S64x128 .f32) (x4 : Vec F S128x128 .f32) (x5 : Vec F S128x128 .f32) (x6 : Vec F S128x128 .f32) (x7 : Vec F S1x128 .f32) (x8 : Vec F S128x512 .bf16) (x9 : Vec F S128x512 .bf16) (x10 : Vec F S1x1x512 .f32) (x11 : Vec F S1x1x512 .f32) : FVec F S128x512 .bf16 :=
  k0_pay18 (View.ld x9 r0_11) -- `v135`
def k0_pay83 (x0 : Vec F S64x128 .f32) (x1 : Vec F S64x128x128 .f32) (x2 : Vec F S64x128x128 .f32) (x3 : Vec F S64x128 .f32) (x4 : Vec F S128x128 .f32) (x5 : Vec F S128x128 .f32) (x6 : Vec F S128x128 .f32) (x7 : Vec F S1x128 .f32) (x8 : Vec F S128x512 .bf16) (x9 : Vec F S128x512 .bf16) (x10 : Vec F S1x1x512 .f32) (x11 : Vec F S1x1x512 .f32) : FVec F S1x1x512 .f32 :=
  k0_pay19 (View.ld x10 r0_12) -- `v137`
def k0_pay84 (x0 : Vec F S64x128 .f32) (x1 : Vec F S64x128x128 .f32) (x2 : Vec F S64x128x128 .f32) (x3 : Vec F S64x128 .f32) (x4 : Vec F S128x128 .f32) (x5 : Vec F S128x128 .f32) (x6 : Vec F S128x128 .f32) (x7 : Vec F S1x128 .f32) (x8 : Vec F S128x512 .bf16) (x9 : Vec F S128x512 .bf16) (x10 : Vec F S1x1x512 .f32) (x11 : Vec F S1x1x512 .f32) : FVec F S1x1x512 .f32 :=
  k0_pay20 (View.ld x11 r0_12) -- `v139`
def k0_pay85 (x0 : Vec F S64x128 .f32) (x1 : Vec F S64x128x128 .f32) (x2 : Vec F S64x128x128 .f32) (x3 : Vec F S64x128 .f32) (x4 : Vec F S128x128 .f32) (x5 : Vec F S128x128 .f32) (x6 : Vec F S128x128 .f32) (x7 : Vec F S1x128 .f32) (x8 : Vec F S128x512 .bf16) (x9 : Vec F S128x512 .bf16) (x10 : Vec F S1x1x512 .f32) (x11 : Vec F S1x1x512 .f32) : FVec F S64x16x1 .f32 :=
  k0_pay21 (k0_pay76 x0 x1 x2 x3 x4 x5 x6 x7 x8 x9 x10 x11) (k0_pay77 x0 x1 x2 x3 x4 x5 x6 x7 x8 x9 x10 x11) -- `v141`
def k0_pay86 (x0 : Vec F S64x128 .f32) (x1 : Vec F S64x128x128 .f32) (x2 : Vec F S64x128x128 .f32) (x3 : Vec F S64x128 .f32) (x4 : Vec F S128x128 .f32) (x5 : Vec F S128x128 .f32) (x6 : Vec F S128x128 .f32) (x7 : Vec F S1x128 .f32) (x8 : Vec F S128x512 .bf16) (x9 : Vec F S128x512 .bf16) (x10 : Vec F S1x1x512 .f32) (x11 : Vec F S1x1x512 .f32) : FVec F S64x16x1 .f32 :=
  k0_pay22 (k0_pay76 x0 x1 x2 x3 x4 x5 x6 x7 x8 x9 x10 x11) (k0_pay77 x0 x1 x2 x3 x4 x5 x6 x7 x8 x9 x10 x11) -- `v143`
def k0_pay87 (x0 : Vec F S64x128 .f32) (x1 : Vec F S64x128x128 .f32) (x2 : Vec F S64x128x128 .f32) (x3 : Vec F S64x128 .f32) (x4 : Vec F S128x128 .f32) (x5 : Vec F S128x128 .f32) (x6 : Vec F S128x128 .f32) (x7 : Vec F S1x128 .f32) (x8 : Vec F S128x512 .bf16) (x9 : Vec F S128x512 .bf16) (x10 : Vec F S1x1x512 .f32) (x11 : Vec F S1x1x512 .f32) : FVec F S64x16x128 .f32 :=
  k0_pay23 (k0_pay76 x0 x1 x2 x3 x4 x5 x6 x7 x8 x9 x10 x11) (k0_pay77 x0 x1 x2 x3 x4 x5 x6 x7 x8 x9 x10 x11) (View.ld x1 r0_3) -- `v146`
def k0_pay88 (x0 : Vec F S64x128 .f32) (x1 : Vec F S64x128x128 .f32) (x2 : Vec F S64x128x128 .f32) (x3 : Vec F S64x128 .f32) (x4 : Vec F S128x128 .f32) (x5 : Vec F S128x128 .f32) (x6 : Vec F S128x128 .f32) (x7 : Vec F S1x128 .f32) (x8 : Vec F S128x512 .bf16) (x9 : Vec F S128x512 .bf16) (x10 : Vec F S1x1x512 .f32) (x11 : Vec F S1x1x512 .f32) : FVec F S64x16x128 .f32 :=
  k0_pay24 (k0_pay76 x0 x1 x2 x3 x4 x5 x6 x7 x8 x9 x10 x11) (k0_pay77 x0 x1 x2 x3 x4 x5 x6 x7 x8 x9 x10 x11) -- `v148`
def k0_pay89 (x0 : Vec F S64x128 .f32) (x1 : Vec F S64x128x128 .f32) (x2 : Vec F S64x128x128 .f32) (x3 : Vec F S64x128 .f32) (x4 : Vec F S128x128 .f32) (x5 : Vec F S128x128 .f32) (x6 : Vec F S128x128 .f32) (x7 : Vec F S1x128 .f32) (x8 : Vec F S128x512 .bf16) (x9 : Vec F S128x512 .bf16) (x10 : Vec F S1x1x512 .f32) (x11 : Vec F S1x1x512 .f32) : FVec F S64x16x128 .f32 :=
  k0_pay25 (k0_pay74 x0 x1 x2 x3 x4 x5 x6 x7 x8 x9 x10 x11) -- `v149`
def k0_pay90 (x0 : Vec F S64x128 .f32) (x1 : Vec F S64x128x128 .f32) (x2 : Vec F S64x128x128 .f32) (x3 : Vec F S64x128 .f32) (x4 : Vec F S128x128 .f32) (x5 : Vec F S128x128 .f32) (x6 : Vec F S128x128 .f32) (x7 : Vec F S1x128 .f32) (x8 : Vec F S128x512 .bf16) (x9 : Vec F S128x512 .bf16) (x10 : Vec F S1x1x512 .f32) (x11 : Vec F S1x1x512 .f32) : FVec F S64x16x1 .f32 :=
  k0_pay29 (k0_pay78 x0 x1 x2 x3 x4 x5 x6 x7 x8 x9 x10 x11) -- `v185`
def k0_pay91 (x0 : Vec F S64x128 .f32) (x1 : Vec F S64x128x128 .f32) (x2 : Vec F S64x128x128 .f32) (x3 : Vec F S64x128 .f32) (x4 : Vec F S128x128 .f32) (x5 : Vec F S128x128 .f32) (x6 : Vec F S128x128 .f32) (x7 : Vec F S1x128 .f32) (x8 : Vec F S128x512 .bf16) (x9 : Vec F S128x512 .bf16) (x10 : Vec F S1x1x512 .f32) (x11 : Vec F S1x1x512 .f32) : FVec F S64x16x1 .f32 :=
  k0_pay30 (k0_pay79 x0 x1 x2 x3 x4 x5 x6 x7 x8 x9 x10 x11) -- `v187`
def k0_pay92 (x0 : Vec F S64x128 .f32) (x1 : Vec F S64x128x128 .f32) (x2 : Vec F S64x128x128 .f32) (x3 : Vec F S64x128 .f32) (x4 : Vec F S128x128 .f32) (x5 : Vec F S128x128 .f32) (x6 : Vec F S128x128 .f32) (x7 : Vec F S1x128 .f32) (x8 : Vec F S128x512 .bf16) (x9 : Vec F S128x512 .bf16) (x10 : Vec F S1x1x512 .f32) (x11 : Vec F S1x1x512 .f32) : FVec F S64x16x128 .f32 :=
  k0_pay31 (k0_pay79 x0 x1 x2 x3 x4 x5 x6 x7 x8 x9 x10 x11) -- `v189`
def k0_pay93 (x0 : Vec F S64x128 .f32) (x1 : Vec F S64x128x128 .f32) (x2 : Vec F S64x128x128 .f32) (x3 : Vec F S64x128 .f32) (x4 : Vec F S128x128 .f32) (x5 : Vec F S128x128 .f32) (x6 : Vec F S128x128 .f32) (x7 : Vec F S1x128 .f32) (x8 : Vec F S128x512 .bf16) (x9 : Vec F S128x512 .bf16) (x10 : Vec F S1x1x512 .f32) (x11 : Vec F S1x1x512 .f32) : FVec F S64x16x1 .f32 :=
  k0_pay35 (k0_pay78 x0 x1 x2 x3 x4 x5 x6 x7 x8 x9 x10 x11) -- `v229`
def k0_pay94 (x0 : Vec F S64x128 .f32) (x1 : Vec F S64x128x128 .f32) (x2 : Vec F S64x128x128 .f32) (x3 : Vec F S64x128 .f32) (x4 : Vec F S128x128 .f32) (x5 : Vec F S128x128 .f32) (x6 : Vec F S128x128 .f32) (x7 : Vec F S1x128 .f32) (x8 : Vec F S128x512 .bf16) (x9 : Vec F S128x512 .bf16) (x10 : Vec F S1x1x512 .f32) (x11 : Vec F S1x1x512 .f32) : FVec F S64x16x1 .f32 :=
  k0_pay36 (k0_pay79 x0 x1 x2 x3 x4 x5 x6 x7 x8 x9 x10 x11) -- `v231`
def k0_pay95 (x0 : Vec F S64x128 .f32) (x1 : Vec F S64x128x128 .f32) (x2 : Vec F S64x128x128 .f32) (x3 : Vec F S64x128 .f32) (x4 : Vec F S128x128 .f32) (x5 : Vec F S128x128 .f32) (x6 : Vec F S128x128 .f32) (x7 : Vec F S1x128 .f32) (x8 : Vec F S128x512 .bf16) (x9 : Vec F S128x512 .bf16) (x10 : Vec F S1x1x512 .f32) (x11 : Vec F S1x1x512 .f32) : FVec F S64x16 .f32 :=
  k0_pay40 (k0_pay78 x0 x1 x2 x3 x4 x5 x6 x7 x8 x9 x10 x11) -- `v272`

/-- Window 12's staging buffer after the body, from the input windows' blocks: its 8 stores as pieces, LAST
    FIRST (Lib/Pipeline/FrameBody.lean `View.canon`; the payloads are the skeleton's and the values stated above). -/
def out0_12 (x0 : Vec F S64x128 .f32) (x1 : Vec F S64x128x128 .f32) (x2 : Vec F S64x128x128 .f32) (x3 : Vec F S64x128 .f32) (x4 : Vec F S128x128 .f32) (x5 : Vec F S128x128 .f32) (x6 : Vec F S128x128 .f32) (x7 : Vec F S1x128 .f32) (x8 : Vec F S128x512 .bf16) (x9 : Vec F S128x512 .bf16) (x10 : Vec F S1x1x512 .f32) (x11 : Vec F S1x1x512 .f32) : Vec F S64x128x128 .f32 :=
  View.canon [⟨r0_10, k0_pay69 (k0_pay74 x0 x1 x2 x3 x4 x5 x6 x7 x8 x9 x10 x11) (k0_pay78 x0 x1 x2 x3 x4 x5 x6 x7 x8 x9 x10 x11) (k0_pay79 x0 x1 x2 x3 x4 x5 x6 x7 x8 x9 x10 x11) (View.ld x1 r0_10)⟩,
    ⟨r0_9, k0_pay62 (k0_pay74 x0 x1 x2 x3 x4 x5 x6 x7 x8 x9 x10 x11) (k0_pay78 x0 x1 x2 x3 x4 x5 x6 x7 x8 x9 x10 x11) (k0_pay79 x0 x1 x2 x3 x4 x5 x6 x7 x8 x9 x10 x11) (View.ld x1 r0_9)⟩,
    ⟨r0_8, k0_pay55 (k0_pay74 x0 x1 x2 x3 x4 x5 x6 x7 x8 x9 x10 x11) (k0_pay78 x0 x1 x2 x3 x4 x5 x6 x7 x8 x9 x10 x11) (k0_pay79 x0 x1 x2 x3 x4 x5 x6 x7 x8 x9 x10 x11) (View.ld x1 r0_8)⟩,
    ⟨r0_7, k0_pay48 (k0_pay74 x0 x1 x2 x3 x4 x5 x6 x7 x8 x9 x10 x11) (k0_pay78 x0 x1 x2 x3 x4 x5 x6 x7 x8 x9 x10 x11) (k0_pay79 x0 x1 x2 x3 x4 x5 x6 x7 x8 x9 x10 x11) (View.ld x1 r0_7)⟩,
    ⟨r0_6, k0_pay43 (k0_pay74 x0 x1 x2 x3 x4 x5 x6 x7 x8 x9 x10 x11) (k0_pay79 x0 x1 x2 x3 x4 x5 x6 x7 x8 x9 x10 x11) (k0_pay95 x0 x1 x2 x3 x4 x5 x6 x7 x8 x9 x10 x11) (View.ld x1 r0_6)⟩,
    ⟨r0_5, k0_pay37 (k0_pay74 x0 x1 x2 x3 x4 x5 x6 x7 x8 x9 x10 x11) (k0_pay93 x0 x1 x2 x3 x4 x5 x6 x7 x8 x9 x10 x11) (k0_pay94 x0 x1 x2 x3 x4 x5 x6 x7 x8 x9 x10 x11) (View.ld x1 r0_5)⟩,
    ⟨r0_4, k0_pay32 (k0_pay74 x0 x1 x2 x3 x4 x5 x6 x7 x8 x9 x10 x11) (k0_pay90 x0 x1 x2 x3 x4 x5 x6 x7 x8 x9 x10 x11) (View.ld x1 r0_4) (k0_pay92 x0 x1 x2 x3 x4 x5 x6 x7 x8 x9 x10 x11)⟩,
    ⟨r0_3, k0_pay26 (k0_pay87 x0 x1 x2 x3 x4 x5 x6 x7 x8 x9 x10 x11) (k0_pay88 x0 x1 x2 x3 x4 x5 x6 x7 x8 x9 x10 x11) (k0_pay89 x0 x1 x2 x3 x4 x5 x6 x7 x8 x9 x10 x11)⟩]

/-- Its stores tile the buffer (checked by evaluation), so they cover it. -/
theorem cover0_12 (p0 : Vec F S64x16x128 .f32) (p1 : Vec F S64x16x128 .f32) (p2 : Vec F S64x16x128 .f32) (p3 : Vec F S64x16x128 .f32) (p4 : Vec F S64x16x128 .f32) (p5 : Vec F S64x16x128 .f32) (p6 : Vec F S64x16x128 .f32) (p7 : Vec F S64x16x128 .f32) (y : S64x128x128.Idx) :
    ∃ pc ∈ ([⟨r0_10, p0⟩, ⟨r0_9, p1⟩, ⟨r0_8, p2⟩, ⟨r0_7, p3⟩, ⟨r0_6, p4⟩, ⟨r0_5, p5⟩, ⟨r0_4, p6⟩, ⟨r0_3, p7⟩] : List (View.Piece (Elt F) S64x128x128 .f32)), y ∈ pc.1.set :=
  View.cover_of_tiled [⟨r0_10, p0⟩, ⟨r0_9, p1⟩, ⟨r0_8, p2⟩, ⟨r0_7, p3⟩, ⟨r0_6, p4⟩, ⟨r0_5, p5⟩, ⟨r0_4, p6⟩, ⟨r0_3, p7⟩] S64x16x128.size (by rfl) y

/-- Window 13's staging buffer after the body, from the input windows' blocks: its 8 stores as pieces, LAST
    FIRST (Lib/Pipeline/FrameBody.lean `View.canon`; the payloads are the skeleton's and the values stated above). -/
def out0_13 (x0 : Vec F S64x128 .f32) (x1 : Vec F S64x128x128 .f32) (x2 : Vec F S64x128x128 .f32) (x3 : Vec F S64x128 .f32) (x4 : Vec F S128x128 .f32) (x5 : Vec F S128x128 .f32) (x6 : Vec F S128x128 .f32) (x7 : Vec F S1x128 .f32) (x8 : Vec F S128x512 .bf16) (x9 : Vec F S128x512 .bf16) (x10 : Vec F S1x1x512 .f32) (x11 : Vec F S1x1x512 .f32) : Vec F S64x128x128 .f32 :=
  View.canon [⟨r0_10, k0_pay70 (k0_pay73 x0 x1 x2 x3 x4 x5 x6 x7 x8 x9 x10 x11) (k0_pay78 x0 x1 x2 x3 x4 x5 x6 x7 x8 x9 x10 x11) (k0_pay79 x0 x1 x2 x3 x4 x5 x6 x7 x8 x9 x10 x11) (View.ld x2 r0_10)⟩,
    ⟨r0_9, k0_pay63 (k0_pay73 x0 x1 x2 x3 x4 x5 x6 x7 x8 x9 x10 x11) (k0_pay78 x0 x1 x2 x3 x4 x5 x6 x7 x8 x9 x10 x11) (k0_pay79 x0 x1 x2 x3 x4 x5 x6 x7 x8 x9 x10 x11) (View.ld x2 r0_9)⟩,
    ⟨r0_8, k0_pay56 (k0_pay73 x0 x1 x2 x3 x4 x5 x6 x7 x8 x9 x10 x11) (k0_pay78 x0 x1 x2 x3 x4 x5 x6 x7 x8 x9 x10 x11) (k0_pay79 x0 x1 x2 x3 x4 x5 x6 x7 x8 x9 x10 x11) (View.ld x2 r0_8)⟩,
    ⟨r0_7, k0_pay49 (k0_pay73 x0 x1 x2 x3 x4 x5 x6 x7 x8 x9 x10 x11) (k0_pay78 x0 x1 x2 x3 x4 x5 x6 x7 x8 x9 x10 x11) (k0_pay79 x0 x1 x2 x3 x4 x5 x6 x7 x8 x9 x10 x11) (View.ld x2 r0_7)⟩,
    ⟨r0_6, k0_pay44 (k0_pay73 x0 x1 x2 x3 x4 x5 x6 x7 x8 x9 x10 x11) (k0_pay79 x0 x1 x2 x3 x4 x5 x6 x7 x8 x9 x10 x11) (k0_pay95 x0 x1 x2 x3 x4 x5 x6 x7 x8 x9 x10 x11) (View.ld x2 r0_6)⟩,
    ⟨r0_5, k0_pay38 (k0_pay73 x0 x1 x2 x3 x4 x5 x6 x7 x8 x9 x10 x11) (k0_pay93 x0 x1 x2 x3 x4 x5 x6 x7 x8 x9 x10 x11) (k0_pay94 x0 x1 x2 x3 x4 x5 x6 x7 x8 x9 x10 x11) (View.ld x2 r0_5)⟩,
    ⟨r0_4, k0_pay33 (k0_pay73 x0 x1 x2 x3 x4 x5 x6 x7 x8 x9 x10 x11) (k0_pay90 x0 x1 x2 x3 x4 x5 x6 x7 x8 x9 x10 x11) (k0_pay91 x0 x1 x2 x3 x4 x5 x6 x7 x8 x9 x10 x11) (View.ld x2 r0_4)⟩,
    ⟨r0_3, k0_pay27 (k0_pay73 x0 x1 x2 x3 x4 x5 x6 x7 x8 x9 x10 x11) (k0_pay85 x0 x1 x2 x3 x4 x5 x6 x7 x8 x9 x10 x11) (k0_pay86 x0 x1 x2 x3 x4 x5 x6 x7 x8 x9 x10 x11) (View.ld x2 r0_3)⟩]

/-- Its stores tile the buffer (checked by evaluation), so they cover it. -/
theorem cover0_13 (p0 : Vec F S64x16x128 .f32) (p1 : Vec F S64x16x128 .f32) (p2 : Vec F S64x16x128 .f32) (p3 : Vec F S64x16x128 .f32) (p4 : Vec F S64x16x128 .f32) (p5 : Vec F S64x16x128 .f32) (p6 : Vec F S64x16x128 .f32) (p7 : Vec F S64x16x128 .f32) (y : S64x128x128.Idx) :
    ∃ pc ∈ ([⟨r0_10, p0⟩, ⟨r0_9, p1⟩, ⟨r0_8, p2⟩, ⟨r0_7, p3⟩, ⟨r0_6, p4⟩, ⟨r0_5, p5⟩, ⟨r0_4, p6⟩, ⟨r0_3, p7⟩] : List (View.Piece (Elt F) S64x128x128 .f32)), y ∈ pc.1.set :=
  View.cover_of_tiled [⟨r0_10, p0⟩, ⟨r0_9, p1⟩, ⟨r0_8, p2⟩, ⟨r0_7, p3⟩, ⟨r0_6, p4⟩, ⟨r0_5, p5⟩, ⟨r0_4, p6⟩, ⟨r0_3, p7⟩] S64x16x128.size (by rfl) y

/-- Window 14's staging buffer after the body, from the input windows' blocks: its 1 store as pieces, LAST
    FIRST (Lib/Pipeline/FrameBody.lean `View.canon`; the payloads are the skeleton's and the values stated above). -/
def out0_14 (x0 : Vec F S64x128 .f32) (x1 : Vec F S64x128x128 .f32) (x2 : Vec F S64x128x128 .f32) (x3 : Vec F S64x128 .f32) (x4 : Vec F S128x128 .f32) (x5 : Vec F S128x128 .f32) (x6 : Vec F S128x128 .f32) (x7 : Vec F S1x128 .f32) (x8 : Vec F S128x512 .bf16) (x9 : Vec F S128x512 .bf16) (x10 : Vec F S1x1x512 .f32) (x11 : Vec F S1x1x512 .f32) : Vec F S64x128 .f32 :=
  View.canon [⟨r0_0, k0_pay16 (k0_pay76 x0 x1 x2 x3 x4 x5 x6 x7 x8 x9 x10 x11) (k0_pay77 x0 x1 x2 x3 x4 x5 x6 x7 x8 x9 x10 x11) (View.ld x3 r0_0)⟩]

/-- Its stores tile the buffer (checked by evaluation), so they cover it. -/
theorem cover0_14 (p0 : Vec F S64x128 .f32) (y : S64x128.Idx) :
    ∃ pc ∈ ([⟨r0_0, p0⟩] : List (View.Piece (Elt F) S64x128 .f32)), y ∈ pc.1.set :=
  View.cover_of_tiled [⟨r0_0, p0⟩] S64x128.size (by rfl) y

/-- Window 15's staging buffer after the body, from the input windows' blocks: its 8 stores as pieces, LAST
    FIRST (Lib/Pipeline/FrameBody.lean `View.canon`; the payloads are the skeleton's and the values stated above). -/
def out0_15 (x0 : Vec F S64x128 .f32) (x1 : Vec F S64x128x128 .f32) (x2 : Vec F S64x128x128 .f32) (x3 : Vec F S64x128 .f32) (x4 : Vec F S128x128 .f32) (x5 : Vec F S128x128 .f32) (x6 : Vec F S128x128 .f32) (x7 : Vec F S1x128 .f32) (x8 : Vec F S128x512 .bf16) (x9 : Vec F S128x512 .bf16) (x10 : Vec F S1x1x512 .f32) (x11 : Vec F S1x1x512 .f32) : Vec F S128x64x512 .bf16 :=
  View.canon [⟨r0_20, k0_pay1 (k0_pay80 x0 x1 x2 x3 x4 x5 x6 x7 x8 x9 x10 x11) (k0_pay82 x0 x1 x2 x3 x4 x5 x6 x7 x8 x9 x10 x11) (k0_pay83 x0 x1 x2 x3 x4 x5 x6 x7 x8 x9 x10 x11) (k0_pay84 x0 x1 x2 x3 x4 x5 x6 x7 x8 x9 x10 x11) (k0_pay71 (k0_pay74 x0 x1 x2 x3 x4 x5 x6 x7 x8 x9 x10 x11) (k0_pay78 x0 x1 x2 x3 x4 x5 x6 x7 x8 x9 x10 x11) (k0_pay79 x0 x1 x2 x3 x4 x5 x6 x7 x8 x9 x10 x11) (k0_pay81 x0 x1 x2 x3 x4 x5 x6 x7 x8 x9 x10 x11) (View.ld x1 r0_10)) (k0_pay72 (k0_pay73 x0 x1 x2 x3 x4 x5 x6 x7 x8 x9 x10 x11) (k0_pay78 x0 x1 x2 x3 x4 x5 x6 x7 x8 x9 x10 x11) (k0_pay79 x0 x1 x2 x3 x4 x5 x6 x7 x8 x9 x10 x11) (View.ld x2 r0_10))⟩,
    ⟨r0_19, k0_pay66 (k0_pay83 x0 x1 x2 x3 x4 x5 x6 x7 x8 x9 x10 x11) (k0_pay84 x0 x1 x2 x3 x4 x5 x6 x7 x8 x9 x10 x11) (k0_pay64 (k0_pay73 x0 x1 x2 x3 x4 x5 x6 x7 x8 x9 x10 x11) (k0_pay74 x0 x1 x2 x3 x4 x5 x6 x7 x8 x9 x10 x11) (k0_pay78 x0 x1 x2 x3 x4 x5 x6 x7 x8 x9 x10 x11) (k0_pay79 x0 x1 x2 x3 x4 x5 x6 x7 x8 x9 x10 x11) (k0_pay81 x0 x1 x2 x3 x4 x5 x6 x7 x8 x9 x10 x11) (k0_pay82 x0 x1 x2 x3 x4 x5 x6 x7 x8 x9 x10 x11) (View.ld x1 r0_9) (View.ld x2 r0_9)) (k0_pay65 (k0_pay80 x0 x1 x2 x3 x4 x5 x6 x7 x8 x9 x10 x11))⟩,
    ⟨r0_18, k0_pay59 (k0_pay83 x0 x1 x2 x3 x4 x5 x6 x7 x8 x9 x10 x11) (k0_pay84 x0 x1 x2 x3 x4 x5 x6 x7 x8 x9 x10 x11) (k0_pay57 (k0_pay73 x0 x1 x2 x3 x4 x5 x6 x7 x8 x9 x10 x11) (k0_pay74 x0 x1 x2 x3 x4 x5 x6 x7 x8 x9 x10 x11) (k0_pay78 x0 x1 x2 x3 x4 x5 x6 x7 x8 x9 x10 x11) (k0_pay79 x0 x1 x2 x3 x4 x5 x6 x7 x8 x9 x10 x11) (k0_pay81 x0 x1 x2 x3 x4 x5 x6 x7 x8 x9 x10 x11) (k0_pay82 x0 x1 x2 x3 x4 x5 x6 x7 x8 x9 x10 x11) (View.ld x1 r0_8) (View.ld x2 r0_8)) (k0_pay58 (k0_pay80 x0 x1 x2 x3 x4 x5 x6 x7 x8 x9 x10 x11))⟩,
    ⟨r0_17, k0_pay52 (k0_pay50 (k0_pay73 x0 x1 x2 x3 x4 x5 x6 x7 x8 x9 x10 x11) (k0_pay74 x0 x1 x2 x3 x4 x5 x6 x7 x8 x9 x10 x11) (k0_pay78 x0 x1 x2 x3 x4 x5 x6 x7 x8 x9 x10 x11) (k0_pay79 x0 x1 x2 x3 x4 x5 x6 x7 x8 x9 x10 x11) (k0_pay80 x0 x1 x2 x3 x4 x5 x6 x7 x8 x9 x10 x11) (k0_pay81 x0 x1 x2 x3 x4 x5 x6 x7 x8 x9 x10 x11) (k0_pay82 x0 x1 x2 x3 x4 x5 x6 x7 x8 x9 x10 x11) (k0_pay83 x0 x1 x2 x3 x4 x5 x6 x7 x8 x9 x10 x11) (View.ld x1 r0_7) (View.ld x2 r0_7)) (k0_pay51 (k0_pay84 x0 x1 x2 x3 x4 x5 x6 x7 x8 x9 x10 x11))⟩,
    ⟨r0_16, k0_pay45 (k0_pay73 x0 x1 x2 x3 x4 x5 x6 x7 x8 x9 x10 x11) (k0_pay74 x0 x1 x2 x3 x4 x5 x6 x7 x8 x9 x10 x11) (k0_pay79 x0 x1 x2 x3 x4 x5 x6 x7 x8 x9 x10 x11) (k0_pay80 x0 x1 x2 x3 x4 x5 x6 x7 x8 x9 x10 x11) (k0_pay81 x0 x1 x2 x3 x4 x5 x6 x7 x8 x9 x10 x11) (k0_pay82 x0 x1 x2 x3 x4 x5 x6 x7 x8 x9 x10 x11) (k0_pay83 x0 x1 x2 x3 x4 x5 x6 x7 x8 x9 x10 x11) (k0_pay84 x0 x1 x2 x3 x4 x5 x6 x7 x8 x9 x10 x11) (k0_pay95 x0 x1 x2 x3 x4 x5 x6 x7 x8 x9 x10 x11) (View.ld x1 r0_6) (View.ld x2 r0_6)⟩,
    ⟨r0_15, k0_pay39 (k0_pay73 x0 x1 x2 x3 x4 x5 x6 x7 x8 x9 x10 x11) (k0_pay74 x0 x1 x2 x3 x4 x5 x6 x7 x8 x9 x10 x11) (k0_pay80 x0 x1 x2 x3 x4 x5 x6 x7 x8 x9 x10 x11) (k0_pay81 x0 x1 x2 x3 x4 x5 x6 x7 x8 x9 x10 x11) (k0_pay82 x0 x1 x2 x3 x4 x5 x6 x7 x8 x9 x10 x11) (k0_pay83 x0 x1 x2 x3 x4 x5 x6 x7 x8 x9 x10 x11) (k0_pay84 x0 x1 x2 x3 x4 x5 x6 x7 x8 x9 x10 x11) (k0_pay93 x0 x1 x2 x3 x4 x5 x6 x7 x8 x9 x10 x11) (k0_pay94 x0 x1 x2 x3 x4 x5 x6 x7 x8 x9 x10 x11) (View.ld x1 r0_5) (View.ld x2 r0_5)⟩,
    ⟨r0_14, k0_pay34 (k0_pay73 x0 x1 x2 x3 x4 x5 x6 x7 x8 x9 x10 x11) (k0_pay74 x0 x1 x2 x3 x4 x5 x6 x7 x8 x9 x10 x11) (k0_pay80 x0 x1 x2 x3 x4 x5 x6 x7 x8 x9 x10 x11) (k0_pay81 x0 x1 x2 x3 x4 x5 x6 x7 x8 x9 x10 x11) (k0_pay82 x0 x1 x2 x3 x4 x5 x6 x7 x8 x9 x10 x11) (k0_pay83 x0 x1 x2 x3 x4 x5 x6 x7 x8 x9 x10 x11) (k0_pay84 x0 x1 x2 x3 x4 x5 x6 x7 x8 x9 x10 x11) (k0_pay90 x0 x1 x2 x3 x4 x5 x6 x7 x8 x9 x10 x11) (k0_pay91 x0 x1 x2 x3 x4 x5 x6 x7 x8 x9 x10 x11) (View.ld x1 r0_4) (k0_pay92 x0 x1 x2 x3 x4 x5 x6 x7 x8 x9 x10 x11) (View.ld x2 r0_4)⟩,
    ⟨r0_13, k0_pay28 (k0_pay73 x0 x1 x2 x3 x4 x5 x6 x7 x8 x9 x10 x11) (k0_pay80 x0 x1 x2 x3 x4 x5 x6 x7 x8 x9 x10 x11) (k0_pay81 x0 x1 x2 x3 x4 x5 x6 x7 x8 x9 x10 x11) (k0_pay82 x0 x1 x2 x3 x4 x5 x6 x7 x8 x9 x10 x11) (k0_pay83 x0 x1 x2 x3 x4 x5 x6 x7 x8 x9 x10 x11) (k0_pay84 x0 x1 x2 x3 x4 x5 x6 x7 x8 x9 x10 x11) (k0_pay85 x0 x1 x2 x3 x4 x5 x6 x7 x8 x9 x10 x11) (k0_pay86 x0 x1 x2 x3 x4 x5 x6 x7 x8 x9 x10 x11) (k0_pay87 x0 x1 x2 x3 x4 x5 x6 x7 x8 x9 x10 x11) (k0_pay88 x0 x1 x2 x3 x4 x5 x6 x7 x8 x9 x10 x11) (k0_pay89 x0 x1 x2 x3 x4 x5 x6 x7 x8 x9 x10 x11) (View.ld x2 r0_3)⟩]

/-- Its stores tile the buffer (checked by evaluation), so they cover it. -/
theorem cover0_15 (p0 : Vec F S16x64x512 .bf16) (p1 : Vec F S16x64x512 .bf16) (p2 : Vec F S16x64x512 .bf16) (p3 : Vec F S16x64x512 .bf16) (p4 : Vec F S16x64x512 .bf16) (p5 : Vec F S16x64x512 .bf16) (p6 : Vec F S16x64x512 .bf16) (p7 : Vec F S16x64x512 .bf16) (y : S128x64x512.Idx) :
    ∃ pc ∈ ([⟨r0_20, p0⟩, ⟨r0_19, p1⟩, ⟨r0_18, p2⟩, ⟨r0_17, p3⟩, ⟨r0_16, p4⟩, ⟨r0_15, p5⟩, ⟨r0_14, p6⟩, ⟨r0_13, p7⟩] : List (View.Piece (Elt F) S128x64x512 .bf16)), y ∈ pc.1.set :=
  View.cover_of_tiled [⟨r0_20, p0⟩, ⟨r0_19, p1⟩, ⟨r0_18, p2⟩, ⟨r0_17, p3⟩, ⟨r0_16, p4⟩, ⟨r0_15, p5⟩, ⟨r0_14, p6⟩, ⟨r0_13, p7⟩] S16x64x512.size (by rfl) y

/-! ## The body's triple -/

set_option maxHeartbeats 2228600 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S64x128 .f32) (harg1 : arg1.IsWhole) (arg2 : Memref sig .tc .vmem S64x128x128 .f32) (harg2 : arg2.IsWhole) (arg3 : Memref sig .tc .vmem S64x128x128 .f32) (harg3 : arg3.IsWhole) (arg4 : Memref sig .tc .vmem S64x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x512 .bf16) (harg9 : arg9.IsWhole) (arg10 : Memref sig .tc .vmem S128x512 .bf16) (harg10 : arg10.IsWhole) (arg11 : Memref sig .tc .vmem S1x1x512 .f32) (harg11 : arg11.IsWhole) (arg12 : Memref sig .tc .vmem S1x1x512 .f32) (harg12 : arg12.IsWhole) (arg13 : Memref sig .tc .vmem S64x128x128 .f32) (harg13 : arg13.IsWhole) (arg14 : Memref sig .tc .vmem S64x128x128 .f32) (harg14 : arg14.IsWhole) (arg15 : Memref sig .tc .vmem S64x128 .f32) (harg15 : arg15.IsWhole) (arg16 : Memref sig .tc .vmem S128x64x512 .bf16) (harg16 : arg16.IsWhole)
    (x0 : Vec F S64x128 .f32) (x1 : Vec F S64x128x128 .f32) (x2 : Vec F S64x128x128 .f32) (x3 : Vec F S64x128 .f32) (x4 : Vec F S128x128 .f32) (x5 : Vec F S128x128 .f32) (x6 : Vec F S128x128 .f32) (x7 : Vec F S1x128 .f32) (x8 : Vec F S128x512 .bf16) (x9 : Vec F S128x512 .bf16) (x10 : Vec F S1x1x512 .f32) (x11 : Vec F S1x1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out0_12 x0 x1 x2 x3 x4 x5 x6 x7 x8 x9 x10 x11) ∗ owns (c : Thread nD τ) arg14 fullShare (out0_13 x0 x1 x2 x3 x4 x5 x6 x7 x8 x9 x10 x11) ∗ owns (c : Thread nD τ) arg15 fullShare (out0_14 x0 x1 x2 x3 x4 x5 x6 x7 x8 x9 x10 x11) ∗ owns (c : Thread nD τ) arg16 fullShare (out0_15 x0 x1 x2 x3 x4 x5 x6 x7 x8 x9 x10 x11)) -∗ K ⟨⟩))
      ⊢ wp frame (wpE (defs₀ (F := F)) Variants.none c none) E (cc0__memory_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__memory_kernel_eq_skeleton]; unfold cc0__memory_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    refine (View.read_writes_eq_canon _ _ _ (cover0_12 _ _ _ _ _ _ _ _)).trans ?_
    rfl
  isplitl [H13]
  · iexists _; isplitr
    swap; · iexact H13
    ipureintro
    refine (View.read_writes_eq_canon _ _ _ (cover0_13 _ _ _ _ _ _ _ _)).trans ?_
    rfl
  isplitl [H14]
  · iexists _; isplitr
    swap; · iexact H14
    ipureintro
    refine (View.read_writes_eq_canon _ _ _ (cover0_14 _)).trans ?_
    rfl
  iexists _; isplitr
  swap; · iexact H15
  ipureintro
  refine (View.read_writes_eq_canon _ _ _ (cover0_15 _ _ _ _ _ _ _ _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
    | ⟨13, _⟩ => out0_13 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
    | ⟨14, _⟩ => out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
    | ⟨15, _⟩ => out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
    | ⟨_ + 16, h⟩ => absurd h (Nat.not_lt.2 (Nat.le_add_left _ _))
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]
theorem after0_13 (c : Dev nD) (t : Fin cfg0.N) : (dat0 V c).after 13 t = out0_13 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]
theorem after0_14 (c : Dev nD) (t : Fin cfg0.N) : (dat0 V c).after 14 t = out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]
theorem after0_15 (c : Dev nD) (t : Fin cfg0.N) : (dat0 V c).after 15 t = out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel0 c Set.univ (grid0.coords t) _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Whole
-- ==== Proof.Scan.lean ====
/- Region 1 of the kernel program (the scan kernel), for any float operations: one step of the memory cell as a function of the
   gates' block, the recurrent weights and the state before; the state before each grid point, by recursion on the point; the last
   point's outputs; and the kernel body's obligation at every point, the state carried in the two scratch buffers. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import Idealize.ShloMosaic.Lib.WholeRead

@[expose] public section

-- membership in a rectangle of production extents (`View.cover_of_tiled`): the elaborator's structural look
-- recurses once per coordinate of the long axes
set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 1: the scan kernel, at the entry contents `V` -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input's staging buffer holds its block at every point, for any proof data whose array is `V`'s and whose body leaves
    the block in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The first branch's condition: the point is the first. -/
abbrev isFirst (i : grid1.Coords) : Prop :=
  Scalar.cmpi .ne (Scalar.extui (Scalar.cmpi .eq (BitVec.ofNat 32 (i 0).val) 0#32) : BitVec 32) 0#32 = 1#1
/-- The second branch's condition: the point is the last. -/
abbrev isLast (i : grid1.Coords) : Prop := k1_cond2 i = 1#1

theorem isFirst_iff : ∀ t : Fin cfg1.N, isFirst (grid1.coords t) ↔ t.val % 128 = 0 :=
  (fun t => by
    have ht : t.val < 128 := Nat.lt_of_lt_of_eq t.isLt N_1
    have e0 : (grid1.coords t 0).val = t.val / 1 % 128 := Pipeline.Grid.coords_val t 0 (by decide) rfl
    simp only [isFirst, e0]
    word_cmp
   : ∀ t : Fin grid1.N, isFirst (grid1.coords t) ↔ t.val % 128 = 0)

theorem isLast_iff : ∀ t : Fin cfg1.N, isLast (grid1.coords t) ↔ t.val % 128 = 127 :=
  (fun t => by
    have ht : t.val < 128 := Nat.lt_of_lt_of_eq t.isLt N_1
    have e0 : (grid1.coords t 0).val = t.val / 1 % 128 := Pipeline.Grid.coords_val t 0 (by decide) rfl
    simp only [isLast, k1_cond2, e0]
    word_cmp
   : ∀ t : Fin grid1.N, isLast (grid1.coords t) ↔ t.val % 128 = 127)

/-! The inputs are live at every point; the outputs are live at the last point and left alone at every other. -/

theorem live1_0 : ∀ t : Fin cfg1.N, cfg1.idle 0 (grid1.coords t) = false := fun _ => rfl
theorem live1_1 : ∀ t : Fin cfg1.N, cfg1.idle 1 (grid1.coords t) = false := fun _ => rfl
theorem live1_2 : ∀ t : Fin cfg1.N, cfg1.idle 2 (grid1.coords t) = false := fun _ => rfl
theorem live1_3 : ∀ t : Fin cfg1.N, cfg1.idle 3 (grid1.coords t) = false := fun _ => rfl
theorem live1_4 : ∀ t : Fin cfg1.N, cfg1.idle 4 (grid1.coords t) = false := fun _ => rfl
theorem live1_5 : ∀ t : Fin cfg1.N, cfg1.idle 5 (grid1.coords t) = false := fun _ => rfl
theorem live1_6 : ∀ t : Fin cfg1.N, cfg1.idle 6 (grid1.coords t) = false := fun _ => rfl
theorem live1_7 : ∀ t : Fin cfg1.N, cfg1.idle 7 (grid1.coords t) = false := fun _ => rfl
theorem live1_8 : ∀ t : Fin cfg1.N, cfg1.idle 8 (grid1.coords t) = false := fun _ => rfl
theorem idle1_9 : ∀ t : Fin cfg1.N, ¬isLast (grid1.coords t) → cfg1.idle 9 (grid1.coords t) = true := by decide +kernel
theorem noFlush1_9 : ∀ t : Fin cfg1.N, ¬isLast (grid1.coords t) → (cfg1.win 9).flush t = false := by decide +kernel
theorem live1_9 : ∀ t : Fin cfg1.N, isLast (grid1.coords t) → cfg1.idle 9 (grid1.coords t) = false := by decide +kernel
theorem idle1_10 : ∀ t : Fin cfg1.N, ¬isLast (grid1.coords t) → cfg1.idle 10 (grid1.coords t) = true := by decide +kernel
theorem noFlush1_10 : ∀ t : Fin cfg1.N, ¬isLast (grid1.coords t) → (cfg1.win 10).flush t = false := by decide +kernel
theorem live1_10 : ∀ t : Fin cfg1.N, isLast (grid1.coords t) → cfg1.idle 10 (grid1.coords t) = false := by decide +kernel
theorem idle1_11 : ∀ t : Fin cfg1.N, ¬isLast (grid1.coords t) → cfg1.idle 11 (grid1.coords t) = true := by decide +kernel
theorem noFlush1_11 : ∀ t : Fin cfg1.N, ¬isLast (grid1.coords t) → (cfg1.win 11).flush t = false := by decide +kernel
theorem live1_11 : ∀ t : Fin cfg1.N, isLast (grid1.coords t) → cfg1.idle 11 (grid1.coords t) = false := by decide +kernel

/-! Each window's staging memref at point `t`, as the pipeline passes it, and its wholeness; the two scratch buffers. -/

abbrev ms1_0 (t : Fin cfg1.N) : Memref sig .tc .vmem S1x1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x512 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x512 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x512 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x512 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S128x512 .bf16 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1024x128 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1024x128 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S1024x128 .f32 := win1_11.stage (cfg1.slots t 11)
abbrev hs1_11 (t : Fin cfg1.N) : (ms1_11 t).IsWhole := hstage1_11 ((cfg1.slots t 11).cast nbuf1_11)
abbrev sc0 : Memref sig .tc .vmem S1024x128 .f32 := Memref.whole cc1_scratch0
abbrev sc1 : Memref sig .tc .vmem S1024x128 .f32 := Memref.whole cc1_scratch1

/-! ## One step of the cell, and the outputs of the last point, as functions of what the body reads -/

/-- The new hidden state from the gates' block `g`, the recurrent weights `w` and the state `h`, `s` before. -/
def stepH (g : Vec F S1x1024x512 .bf16) (w : Vec F S128x512 .bf16) (h s : Vec F S1024x128 .f32) : Vec F S1024x128 .f32 :=
  k1_pay3 s (k1_pay14 h g w) (k1_pay15 h g w) (k1_pay16 h g w) (k1_pay17 h g w)
/-- The new cell state. -/
def stepC (g : Vec F S1x1024x512 .bf16) (w : Vec F S128x512 .bf16) (h s : Vec F S1024x128 .f32) : Vec F S1024x128 .f32 :=
  k1_pay4 s (k1_pay14 h g w) (k1_pay15 h g w) (k1_pay16 h g w)
/-- The third output of the last point: the hidden state it has just computed. -/
def lastM (g : Vec F S1x1024x512 .bf16) (w : Vec F S128x512 .bf16) (h s : Vec F S1024x128 .f32) : Vec F S1024x128 .f32 :=
  k1_pay2 s (k1_pay14 h g w) (k1_pay15 h g w) (k1_pay16 h g w) (k1_pay17 h g w)
/-- The outer cell's new hidden state, from the memory's answer `hm`, the outer inputs and weights. -/
def outerH (hm x h c : Vec F S1024x128 .f32) (wx wm : Vec F S128x512 .bf16) (b : Vec F S1x512 .f32) (wh : Vec F S128x512 .bf16) : Vec F S1024x128 .f32 :=
  k1_pay6 (k1_pay7 hm x wx wm b h wh) (k1_pay8 hm x wx wm b h wh) (k1_pay9 hm x wx wm b h wh) k1_pay10 c
/-- The outer cell's new cell state. -/
def outerC (hm x h c : Vec F S1024x128 .f32) (wx wm : Vec F S128x512 .bf16) (b : Vec F S1x512 .f32) (wh : Vec F S128x512 .bf16) : Vec F S1024x128 .f32 :=
  k1_pay5 (k1_pay7 hm x wx wm b h wh) (k1_pay8 hm x wx wm b h wh) (k1_pay9 hm x wx wm b h wh) k1_pay10 c

/-! ## Reading a whole buffer -/

section Whole
variable {sp : Space} {s : Shape} {e : EltTy} {κ : Kind}

/-- A whole-shape rectangle places every index at itself. -/
theorem whole_idx {off : Fin s.rank → ℕ} (h0 : off = fun _ => 0) (inb : ∀ a, off a + s.size a ≤ s.size a)
    (x : (Rect.unit (s := s) off s.size inb).shape.Idx) : (Rect.unit (s := s) off s.size inb).toLoadRect.idx x = x := by
  subst h0; funext a; apply Fin.ext; show 0 + 1 * (x a).val = (x a).val; omega

/-- A whole memref's load over the whole shape gives the contents it holds. -/
theorem readAt_whole {mr : Memref sig κ sp s e} (h : mr.IsWhole) (X : s.Idx → Elt F e) {off : Fin s.rank → ℕ} (h0 : off = fun _ => 0)
    (inb : ∀ a, off a + s.size a ≤ s.size a) :
    View.readAt (Elt F) mr.view (Rect.unit (s := s) off s.size inb).toLoadRect (h.unread X) = X :=
  funext fun x => (h.readAt_unread X _ x).trans (congrArg X (whole_idx h0 inb x))

/-- A whole-shape store leaves its value, whatever was stored before. -/
theorem read_whole {v : View sig κ sp s e} (f : v.ty.Contents (Elt F)) {off : Fin s.rank → ℕ} (h0 : off = fun _ => 0)
    (inb : ∀ a, off a + s.size a ≤ s.size a) (w : s.Idx → Elt F e) (L : List (View.Piece (Elt F) s e)) :
    v.read (Elt F) (v.writes (Elt F) f (⟨Rect.unit (s := s) off s.size inb, w⟩ :: L)) = w := by
  funext y
  have := View.read_writes_cons_hit (v := v) (f := f) (Rect.unit (s := s) off s.size inb) w L y y (whole_idx h0 inb y)
  exact this

/-- A load over the whole shape after a whole-shape store gives the value stored. -/
theorem readAt_writes_whole {v : View sig κ sp s e} (f : v.ty.Contents (Elt F)) {off off' : Fin s.rank → ℕ} (h0 : off = fun _ => 0) (h0' : off' = fun _ => 0)
    (inb : ∀ a, off a + s.size a ≤ s.size a) (inb' : ∀ a, off' a + s.size a ≤ s.size a) (w : s.Idx → Elt F e) (L : List (View.Piece (Elt F) s e)) :
    View.readAt (Elt F) v (Rect.unit (s := s) off' s.size inb').toLoadRect (v.writes (Elt F) f (⟨Rect.unit (s := s) off s.size inb, w⟩ :: L)) = w :=
  funext fun x => (congrFun (read_whole f h0 inb w L) _).trans (congrArg w (whole_idx h0' inb' x))
theorem readCov_whole2 {v : View sig κ sp S1024x128 .f32} (inb inb') (w : Vec F S1024x128 .f32) (L : List (View.Piece (Elt F) S1024x128 .f32)) :
    v.readCov (⟨Rect.unit (s := S1024x128) ![0, 0] ![1024, 128] inb, w⟩ :: L) (Rect.unit (s := S1024x128) ![0, 0] ![1024, 128] inb').toLoadRect = w :=
  readAt_writes_whole v.junk (by decide) (by decide) inb inb' w L
end Whole

/-! ## The body's triples, case by case -/

set_option maxHeartbeats 1000000 in
/-- The body at the first point: it sets the state to zero and takes one step; the outputs are left alone. -/
theorem run1_first (c : Dev nD) (i : grid1.Coords) (arg1 : Memref sig .tc .vmem S1x1024x512 .bf16) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S128x512 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S1x512 .f32) (harg8 : arg8.IsWhole) (arg9 : Memref sig .tc .vmem S128x512 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole)
    (hc0 : isFirst i) (hc1 : ¬isLast i) (x0 : Vec F S1x1024x512 .bf16) (x1 : Vec F S1024x128 .f32) (x2 : Vec F S1024x128 .f32) (x3 : Vec F S1024x128 .f32) (x4 : Vec F S128x512 .bf16) (x5 : Vec F S128x512 .bf16) (x6 : Vec F S128x512 .bf16) (x7 : Vec F S1x512 .f32) (x8 : Vec F S128x512 .bf16) (x9 : Vec F S1024x128 .f32) (x10 : Vec F S1024x128 .f32) (x11 : Vec F S1024x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (stepH x0 x4 k1_pay11 k1_pay12) ∗ owns (c : Thread nD τ) arg14 fullShare (stepC x0 x4 k1_pay11 k1_pay12)) -∗ K ⟨⟩))
      ⊢ wp frame (wpE (defs₀ (F := F)) Variants.none c none) E (cc1__scan_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1__scan_kernel_eq_skeleton]; unfold cc1__scan_kernel_skel
  simp only [k1_part2_eq_skeleton, k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
  have e1 := fun inb => readAt_whole (F := F) harg1 x0 (off := ![0, 0, 0]) (by decide) inb
  have e2 := fun inb => readAt_whole (F := F) harg2 x1 (off := ![0, 0]) (by decide) inb
  have e3 := fun inb => readAt_whole (F := F) harg3 x2 (off := ![0, 0]) (by decide) inb
  have e4 := fun inb => readAt_whole (F := F) harg4 x3 (off := ![0, 0]) (by decide) inb
  have e5 := fun inb => readAt_whole (F := F) harg5 x4 (off := ![0, 0]) (by decide) inb
  have e6 := fun inb => readAt_whole (F := F) harg6 x5 (off := ![0, 0]) (by decide) inb
  have e7 := fun inb => readAt_whole (F := F) harg7 x6 (off := ![0, 0]) (by decide) inb
  have e8 := fun inb => readAt_whole (F := F) harg8 x7 (off := ![0, 0]) (by decide) inb
  have e9 := fun inb => readAt_whole (F := F) harg9 x8 (off := ![0, 0]) (by decide) inb
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr
    swap; · iexact H12
    ipureintro
    refine (read_whole (F := F) _ (by decide) _ _ _).trans ?_
    try delta run1_first.sl.r run1_first.sl.r_1 run1_first.sl.r_2 run1_first.sl.r_3
    try delta run1_first.sl.v3
    try delta run1_first.sl.v4
    try delta run1_first.sl.H12_1
    try delta run1_first.sl.H13_1
    simp only [e1, e2, e3, e4, e5, e6, e7, e8, e9, readCov_whole2, stepH, stepC, lastM, outerH, outerC]
  iexists _; isplitr
  swap; · iexact H13
  ipureintro
  refine (read_whole (F := F) _ (by decide) _ _ _).trans ?_
  try delta run1_first.sl.r run1_first.sl.r_1 run1_first.sl.r_2 run1_first.sl.r_3
  try delta run1_first.sl.v3
  try delta run1_first.sl.v4
  try delta run1_first.sl.H12_1
  try delta run1_first.sl.H13_1
  simp only [e1, e2, e3, e4, e5, e6, e7, e8, e9, readCov_whole2, stepH, stepC, lastM, outerH, outerC]

set_option maxHeartbeats 1000000 in
/-- The body at a point neither first nor last: one step from the state the scratch holds. -/
theorem run1_mid (c : Dev nD) (i : grid1.Coords) (arg1 : Memref sig .tc .vmem S1x1024x512 .bf16) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S128x512 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S1x512 .f32) (harg8 : arg8.IsWhole) (arg9 : Memref sig .tc .vmem S128x512 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole)
    (hc0 : ¬isFirst i) (hc1 : ¬isLast i) (x0 : Vec F S1x1024x512 .bf16) (x1 : Vec F S1024x128 .f32) (x2 : Vec F S1024x128 .f32) (x3 : Vec F S1024x128 .f32) (x4 : Vec F S128x512 .bf16) (x5 : Vec F S128x512 .bf16) (x6 : Vec F S128x512 .bf16) (x7 : Vec F S1x512 .f32) (x8 : Vec F S128x512 .bf16) (x9 : Vec F S1024x128 .f32) (x10 : Vec F S1024x128 .f32) (x11 : Vec F S1024x128 .f32) (h s : Vec F S1024x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare h ∗ owns (c : Thread nD τ) arg14 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (stepH x0 x4 h s) ∗ owns (c : Thread nD τ) arg14 fullShare (stepC x0 x4 h s)) -∗ K ⟨⟩))
      ⊢ wp frame (wpE (defs₀ (F := F)) Variants.none c none) E (cc1__scan_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1__scan_kernel_eq_skeleton]; unfold cc1__scan_kernel_skel
  simp only [k1_part2_eq_skeleton, k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
  have e1 := fun inb => readAt_whole (F := F) harg1 x0 (off := ![0, 0, 0]) (by decide) inb
  have e2 := fun inb => readAt_whole (F := F) harg2 x1 (off := ![0, 0]) (by decide) inb
  have e3 := fun inb => readAt_whole (F := F) harg3 x2 (off := ![0, 0]) (by decide) inb
  have e4 := fun inb => readAt_whole (F := F) harg4 x3 (off := ![0, 0]) (by decide) inb
  have e5 := fun inb => readAt_whole (F := F) harg5 x4 (off := ![0, 0]) (by decide) inb
  have e6 := fun inb => readAt_whole (F := F) harg6 x5 (off := ![0, 0]) (by decide) inb
  have e7 := fun inb => readAt_whole (F := F) harg7 x6 (off := ![0, 0]) (by decide) inb
  have e8 := fun inb => readAt_whole (F := F) harg8 x7 (off := ![0, 0]) (by decide) inb
  have e9 := fun inb => readAt_whole (F := F) harg9 x8 (off := ![0, 0]) (by decide) inb
  have e13 := fun inb => readAt_whole (F := F) harg13 h (off := ![0, 0]) (by decide) inb
  have e14 := fun inb => readAt_whole (F := F) harg14 s (off := ![0, 0]) (by decide) inb
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr
    swap; · iexact H12
    ipureintro
    refine (read_whole (F := F) _ (by decide) _ _ _).trans ?_
    simp only [e1, e2, e3, e4, e5, e6, e7, e8, e9, e13, e14, readCov_whole2, stepH, stepC, lastM, outerH, outerC]
  iexists _; isplitr
  swap; · iexact H13
  ipureintro
  refine (read_whole (F := F) _ (by decide) _ _ _).trans ?_
  simp only [e1, e2, e3, e4, e5, e6, e7, e8, e9, e13, e14, readCov_whole2, stepH, stepC, lastM, outerH, outerC]

set_option maxHeartbeats 1000000 in
/-- The body at the last point: one step, then the outer cell; all three outputs are stored. -/
theorem run1_last (c : Dev nD) (i : grid1.Coords) (arg1 : Memref sig .tc .vmem S1x1024x512 .bf16) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S128x512 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S1x512 .f32) (harg8 : arg8.IsWhole) (arg9 : Memref sig .tc .vmem S128x512 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole)
    (hc0 : ¬isFirst i) (hc1 : isLast i) (x0 : Vec F S1x1024x512 .bf16) (x1 : Vec F S1024x128 .f32) (x2 : Vec F S1024x128 .f32) (x3 : Vec F S1024x128 .f32) (x4 : Vec F S128x512 .bf16) (x5 : Vec F S128x512 .bf16) (x6 : Vec F S128x512 .bf16) (x7 : Vec F S1x512 .f32) (x8 : Vec F S128x512 .bf16) (h s : Vec F S1024x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare h ∗ owns (c : Thread nD τ) arg14 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (outerH (lastM x0 x4 h s) x1 x2 x3 x5 x6 x7 x8) ∗ owns (c : Thread nD τ) arg11 fullShare (outerC (lastM x0 x4 h s) x1 x2 x3 x5 x6 x7 x8) ∗ owns (c : Thread nD τ) arg12 fullShare (lastM x0 x4 h s) ∗ owns (c : Thread nD τ) arg13 fullShare (stepH x0 x4 h s) ∗ owns (c : Thread nD τ) arg14 fullShare (stepC x0 x4 h s)) -∗ K ⟨⟩))
      ⊢ wp frame (wpE (defs₀ (F := F)) Variants.none c none) E (cc1__scan_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1__scan_kernel_eq_skeleton]; unfold cc1__scan_kernel_skel
  simp only [k1_part2_eq_skeleton, k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, ⟨%f13, %hf13, H13⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg13.eq_unread hf12; obtain rfl := harg14.eq_unread hf13
  have e1 := fun inb => readAt_whole (F := F) harg1 x0 (off := ![0, 0, 0]) (by decide) inb
  have e2 := fun inb => readAt_whole (F := F) harg2 x1 (off := ![0, 0]) (by decide) inb
  have e3 := fun inb => readAt_whole (F := F) harg3 x2 (off := ![0, 0]) (by decide) inb
  have e4 := fun inb => readAt_whole (F := F) harg4 x3 (off := ![0, 0]) (by decide) inb
  have e5 := fun inb => readAt_whole (F := F) harg5 x4 (off := ![0, 0]) (by decide) inb
  have e6 := fun inb => readAt_whole (F := F) harg6 x5 (off := ![0, 0]) (by decide) inb
  have e7 := fun inb => readAt_whole (F := F) harg7 x6 (off := ![0, 0]) (by decide) inb
  have e8 := fun inb => readAt_whole (F := F) harg8 x7 (off := ![0, 0]) (by decide) inb
  have e9 := fun inb => readAt_whole (F := F) harg9 x8 (off := ![0, 0]) (by decide) inb
  have e13 := fun inb => readAt_whole (F := F) harg13 h (off := ![0, 0]) (by decide) inb
  have e14 := fun inb => readAt_whole (F := F) harg14 s (off := ![0, 0]) (by decide) inb
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr
    swap; · iexact H9
    ipureintro
    refine (read_whole (F := F) _ (by decide) _ _ _).trans ?_
    try delta run1_last.sl.r run1_last.sl.r_1 run1_last.sl.r_2
    simp only [e1, e2, e3, e4, e5, e6, e7, e8, e9, e13, e14, readCov_whole2, stepH, stepC, lastM, outerH, outerC]
  isplitl [H10]
  · iexists _; isplitr
    swap; · iexact H10
    ipureintro
    refine (read_whole (F := F) _ (by decide) _ _ _).trans ?_
    try delta run1_last.sl.r run1_last.sl.r_1 run1_last.sl.r_2
    simp only [e1, e2, e3, e4, e5, e6, e7, e8, e9, e13, e14, readCov_whole2, stepH, stepC, lastM, outerH, outerC]
  isplitl [H11]
  · iexists _; isplitr
    swap; · iexact H11
    ipureintro
    refine (read_whole (F := F) _ (by decide) _ _ _).trans ?_
    try delta run1_last.sl.r run1_last.sl.r_1 run1_last.sl.r_2
    simp only [e1, e2, e3, e4, e5, e6, e7, e8, e9, e13, e14, readCov_whole2, stepH, stepC, lastM, outerH, outerC]
  isplitl [H12]
  · iexists _; isplitr
    swap; · iexact H12
    ipureintro
    refine (read_whole (F := F) _ (by decide) _ _ _).trans ?_
    try delta run1_last.sl.r run1_last.sl.r_1 run1_last.sl.r_2
    simp only [e1, e2, e3, e4, e5, e6, e7, e8, e9, e13, e14, readCov_whole2, stepH, stepC, lastM, outerH, outerC]
  iexists _; isplitr
  swap; · iexact H13
  ipureintro
  refine (read_whole (F := F) _ (by decide) _ _ _).trans ?_
  try delta run1_last.sl.r run1_last.sl.r_1 run1_last.sl.r_2
  simp only [e1, e2, e3, e4, e5, e6, e7, e8, e9, e13, e14, readCov_whole2, stepH, stepC, lastM, outerH, outerC]

/-! ## The state before each point -/

/-- The state (hidden, cell) the scan holds before point `n`: zero before the first, then one step per point. -/
def st1 (c : Dev nD) : (n : ℕ) → n ≤ cfg1.N → Vec F S1024x128 .f32 × Vec F S1024x128 .f32
  | 0, _ => (k1_pay11, k1_pay12)
  | n + 1, hn => (stepH (iblk1 V c 0 ⟨n, hn⟩) (iblk1 V c 4 ⟨n, hn⟩) (st1 c n (Nat.le_of_lt hn)).1 (st1 c n (Nat.le_of_lt hn)).2,
      stepC (iblk1 V c 0 ⟨n, hn⟩) (iblk1 V c 4 ⟨n, hn⟩) (st1 c n (Nat.le_of_lt hn)).1 (st1 c n (Nat.le_of_lt hn)).2)

/-- The memory's answer at point `t` (stored at the last). -/
def hmem1 (c : Dev nD) (t : Fin cfg1.N) : Vec F S1024x128 .f32 :=
  lastM (iblk1 V c 0 t) (iblk1 V c 4 t) (st1 V c t.val (Nat.le_of_lt t.isLt)).1 (st1 V c t.val (Nat.le_of_lt t.isLt)).2
/-- The outer cell's new hidden state at point `t` (stored at the last). -/
def hnew1 (c : Dev nD) (t : Fin cfg1.N) : Vec F S1024x128 .f32 :=
  outerH (hmem1 V c t) (iblk1 V c 1 t) (iblk1 V c 2 t) (iblk1 V c 3 t) (iblk1 V c 5 t) (iblk1 V c 6 t) (iblk1 V c 7 t) (iblk1 V c 8 t)
/-- The outer cell's new cell state at point `t` (stored at the last). -/
def cnew1 (c : Dev nD) (t : Fin cfg1.N) : Vec F S1024x128 .f32 :=
  outerC (hmem1 V c t) (iblk1 V c 1 t) (iblk1 V c 2 t) (iblk1 V c 3 t) (iblk1 V c 5 t) (iblk1 V c 6 t) (iblk1 V c 7 t) (iblk1 V c 8 t)

/-- The other buffers the region may use, and the generator register: nothing is said of their contents. -/
def spare1 (c : Dev nD) : sProp 𝕄 :=
  iprop(Pipeline.scopedRestBut (Ix := Unit) (Name := ℕ) (U := UR sig nD τ) (Lvl := ℕ) (Val := Elt F) spec1 c [cc1_scratch0, cc1_scratch1] ∗ (∃ r, prngReg c r))

/-- The invariant before point `n`: the scratch at the state (at anything before the first point), and the rest. -/
def inv1 (c : Dev nD) : (n : ℕ) → n ≤ cfg1.N → sProp 𝕄
  | 0, _ => iprop(((∃ d, owns (c : Thread nD τ) sc0 fullShare d) ∗ (∃ d, owns (c : Thread nD τ) sc1 fullShare d)) ∗ spare1 c)
  | n + 1, hn => iprop((owns (c : Thread nD τ) sc0 fullShare (st1 V c (n + 1) hn).1 ∗ owns (c : Thread nD τ) sc1 fullShare (st1 V c (n + 1) hn).2) ∗ spare1 c)

theorem inv1_zero (c : Dev nD) (n : ℕ) (h : n ≤ cfg1.N) (hz : n = 0) :
    inv1 V c n h = iprop(((∃ d, owns (c : Thread nD τ) sc0 fullShare d) ∗ (∃ d, owns (c : Thread nD τ) sc1 fullShare d)) ∗ spare1 c) := by
  subst hz; rfl
theorem inv1_pos (c : Dev nD) (n : ℕ) (h : n ≤ cfg1.N) (hz : n ≠ 0) :
    inv1 V c n h = iprop((owns (c : Thread nD τ) sc0 fullShare (st1 V c n h).1 ∗ owns (c : Thread nD τ) sc1 fullShare (st1 V c n h).2) ∗ spare1 c) := by
  cases n with
  | zero => exact absurd rfl hz
  | succ n => rfl
theorem st1_succ (c : Dev nD) (t : Fin cfg1.N) (h : t.val + 1 ≤ cfg1.N) : st1 V c (t.val + 1) h
    = (stepH (iblk1 V c 0 t) (iblk1 V c 4 t) (st1 V c t.val (Nat.le_of_lt t.isLt)).1 (st1 V c t.val (Nat.le_of_lt t.isLt)).2,
      stepC (iblk1 V c 0 t) (iblk1 V c 4 t) (st1 V c t.val (Nat.le_of_lt t.isLt)).1 (st1 V c t.val (Nat.le_of_lt t.isLt)).2) := rfl
theorem st1_zero (c : Dev nD) (n : ℕ) (h : n ≤ cfg1.N) (hz : n = 0) : st1 V c n h = (k1_pay11, k1_pay12) := by
  subst hz; rfl

/-! ## The region's proof data -/

/-- The arrays as the region finds them; after the body each input's buffer at its block and the outputs' at the last point's
    values; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => hnew1 V c t
    | ⟨10, _⟩ => cnew1 V c t
    | ⟨11, _⟩ => hmem1 V c t
  Φ t := inv1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem inv1_castSucc (c : Dev nD) (t : Fin cfg1.N) : (dat1 V c).Φ t.castSucc = inv1 V c t.val (Nat.le_of_lt t.isLt) := by
  dsimp only [dat1]; exact Pipeline.Dat.Φ_castSucc (inv1 V c) t

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = hnew1 V c t := by dsimp only [dat1]
theorem after1_10 (c : Dev nD) (t : Fin cfg1.N) : (dat1 V c).after 10 t = cnew1 V c t := by dsimp only [dat1]
theorem after1_11 (c : Dev nD) (t : Fin cfg1.N) : (dat1 V c).after 11 t = hmem1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation -/

/-- What the body is called with at point `t`. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d)))

/-- What it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t)

/-- An input is handed back at its block. -/
theorem leaves1_of (c : Dev nD) (w : Fin cfg1.W) (t : Fin cfg1.N) (h : cfg1.idle w (grid1.coords t) = false) :
    (dat1 V c).leavesExact w t = owns (c : Thread nD τ) ((cfg1.win w).stage (cfg1.slots t w)) fullShare ((dat1 V c).after w t) := by
  unfold Dat.leavesExact; rw [h]

set_option maxHeartbeats 14400000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).owesAt () t.succ = (dat1 V c).owesAt () t.castSucc from rfl]
  rw [show (dat1 V c).Φ t.succ = inv1 V c (t.val + 1) t.isLt from rfl, inv1_pos V c _ _ (Nat.succ_ne_zero _), st1_succ, inv1_castSucc]
  rw [leaves1_of V c 0 t (live1_0 t), after1_0, leaves1_of V c 1 t (live1_1 t), after1_1, leaves1_of V c 2 t (live1_2 t), after1_2, leaves1_of V c 3 t (live1_3 t), after1_3, leaves1_of V c 4 t (live1_4 t), after1_4, leaves1_of V c 5 t (live1_5 t), after1_5, leaves1_of V c 6 t (live1_6 t), after1_6, leaves1_of V c 7 t (live1_7 t), after1_7, leaves1_of V c 8 t (live1_8 t), after1_8]
  have hN : t.val < 128 := lt_of_lt_of_eq t.isLt (show cfg1.N = 128 from N_1)
  have e0 := isFirst_iff t
  have e1 := isLast_iff t
  by_cases hz : t.val = 0
  · have h0 : isFirst (grid1.coords t) := e0.mpr (by omega)
    have h1 : ¬isLast (grid1.coords t) := fun h => by have := e1.mp h; omega
    rw [Dat.leavesExact_idle (dat1 V c) 9 t (idle1_9 t h1) (noFlush1_9 t h1), Dat.leavesExact_idle (dat1 V c) 10 t (idle1_10 t h1) (noFlush1_10 t h1), Dat.leavesExact_idle (dat1 V c) 11 t (idle1_11 t h1) (noFlush1_11 t h1)]
    rw [inv1_zero V c _ _ hz, st1_zero V c _ _ hz]
    iintro ⟨⟨⟨S0, S1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run1_first c (grid1.coords t) _ _ _ _ _ _ _ _ _ _ _ _ _ _ _ _ _ _ _ _ _ _ _ _ _ _ _ _ h0 h1 (iblk1 V c 0 t) (iblk1 V c 1 t) (iblk1 V c 2 t) (iblk1 V c 3 t) (iblk1 V c 4 t) (iblk1 V c 5 t) (iblk1 V c 6 t) (iblk1 V c 7 t) (iblk1 V c 8 t) _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S1]; · iexact S1
    iintro ⟨H0, H1, H2, H3, H4, H5, H6, H7, H8, H9, H10, H11, S0, S1⟩
    isplitl [S0 S1 Hr]
    · isplitl [S0 S1]
      · isplitl [S0]; · iexact S0
        iexact S1
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    iexists _; iexact H11
  have h0 : ¬isFirst (grid1.coords t) := fun h => by have := e0.mp h; omega
  rw [inv1_pos V c _ _ hz]
  by_cases h1 : isLast (grid1.coords t)
  · rw [leaves1_of V c 9 t (live1_9 t h1), after1_9, leaves1_of V c 10 t (live1_10 t h1), after1_10, leaves1_of V c 11 t (live1_11 t h1), after1_11]
    unfold hnew1 cnew1 hmem1
    iintro ⟨⟨⟨S0, S1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run1_last c (grid1.coords t) _ _ _ _ _ _ _ _ _ _ _ _ _ _ _ _ _ _ _ _ _ _ _ _ _ _ _ _ h0 h1 (iblk1 V c 0 t) (iblk1 V c 1 t) (iblk1 V c 2 t) (iblk1 V c 3 t) (iblk1 V c 4 t) (iblk1 V c 5 t) (iblk1 V c 6 t) (iblk1 V c 7 t) (iblk1 V c 8 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [S0]; · iexact S0
    isplitl [S1]; · iexact S1
    iintro ⟨H0, H1, H2, H3, H4, H5, H6, H7, H8, H9, H10, H11, S0, S1⟩
    isplitl [S0 S1 Hr]
    · isplitl [S0 S1]
      · isplitl [S0]; · iexact S0
        iexact S1
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [Dat.leavesExact_idle (dat1 V c) 9 t (idle1_9 t h1) (noFlush1_9 t h1), Dat.leavesExact_idle (dat1 V c) 10 t (idle1_10 t h1) (noFlush1_10 t h1), Dat.leavesExact_idle (dat1 V c) 11 t (idle1_11 t h1) (noFlush1_11 t h1)]
    iintro ⟨⟨⟨S0, S1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run1_mid c (grid1.coords t) _ _ _ _ _ _ _ _ _ _ _ _ _ _ _ _ _ _ _ _ _ _ _ _ _ _ _ _ h0 h1 (iblk1 V c 0 t) (iblk1 V c 1 t) (iblk1 V c 2 t) (iblk1 V c 3 t) (iblk1 V c 4 t) (iblk1 V c 5 t) (iblk1 V c 6 t) (iblk1 V c 7 t) (iblk1 V c 8 t) _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S1]; · iexact S1
    iintro ⟨H0, H1, H2, H3, H4, H5, H6, H7, H8, H9, H10, H11, S0, S1⟩
    isplitl [S0 S1 Hr]
    · isplitl [S0 S1]
      · isplitl [S0]; · iexact S0
        iexact S1
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    iexists _; iexact H11

theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- A scratch buffer held at some contents is its memref owned at some contents. -/
theorem scratch_some0 (c : Dev nD) : (iprop(∃ f : Buf (Elt F) ((c : Thread nD τ).loc cc1_scratch0), ((c : Thread nD τ).loc cc1_scratch0) ↦{fullShare} f) : sProp 𝕄)
    = iprop(∃ d, owns (c : Thread nD τ) sc0 fullShare d) := by
  simp only [owns_whole]; rfl
theorem scratch_some1 (c : Dev nD) : (iprop(∃ f : Buf (Elt F) ((c : Thread nD τ).loc cc1_scratch1), ((c : Thread nD τ).loc cc1_scratch1) ↦{fullShare} f) : sProp 𝕄)
    = iprop(∃ d, owns (c : Thread nD τ) sc1 fullShare d) := by
  simp only [owns_whole]; rfl

/-- What the launch hands the region is the two scratch buffers at anything and the rest. -/
theorem PhiA1_eq (c : Dev nD) : (Pipeline.ΦA spec1 c : sProp 𝕄)
    = iprop((((∃ d, owns (c : Thread nD τ) sc0 fullShare d) ∗ (∃ d, owns (c : Thread nD τ) sc1 fullShare d))
        ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split, scratch_some0, scratch_some1]

theorem hin1 (c : Dev nD) : Pipeline.ΦA spec1 c ⊢ (dat1 V c).Φ 0 := by
  rw [show (dat1 V c).Φ 0 = inv1 V c 0 (Nat.zero_le _) from rfl, inv1_zero V c 0 _ rfl, PhiA1_eq]
  unfold spare1
  iintro ⟨⟨S, Hb⟩, Hp⟩
  isplitl [S]; · iexact S
  isplitl [Hb]; · iexact Hb
  iexact Hp

theorem hout1 (c : Dev nD) : (dat1 V c).Φ (Fin.last cfg1.N) ⊢ Pipeline.ΦA spec1 c := by
  rw [show (dat1 V c).Φ (Fin.last cfg1.N) = inv1 V c cfg1.N (Nat.le_refl _) from rfl,
    inv1_pos V c _ _ (by have : cfg1.N = 128 := N_1; omega), PhiA1_eq]
  unfold spare1
  iintro ⟨⟨S0, S1⟩, Hb, Hp⟩
  isplitl [S0 S1 Hb]
  · isplitl [S0 S1]
    · isplitl [S0]
      · iexists _; iexact S0
      iexists _; iexact S1
    iexact Hb
  iexact Hp

end Regions

end Cert.KernelIdeal.Whole
-- ==== Proof.Whole.lean ====
/- The kernel program's run, for any float operations: @main is a stretch of host operations and the two regions; the buffer
   contents at every boundary between them, a fold from the launch memory; the run itself, and the frame claim. -/
module

public import proofs.«01_k».proof.Proof.Mem
public import proofs.«01_k».proof.Proof.Scan
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_call0_v0, main_call0_v1, main_call0_v2, main_call0_v3, main_call0_v4, main_call0_v5, main_call0_v6, main_call0_v7, main_call0_v8, main_call0_v9, main_call0_v10, main_call0_v11, main_call0_v12, main_call0_v13, main_call0_v14, main_call0_v15, main_call0_v16, main_call0_v17, main_call0_v18, main_call0_v19, main_call0_v20, main_call0_v21, main_call0_v22, main_call0_v23, main_call0_v24, main_call0_v25]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W3`, the generator register at some state. -/
abbrev Tₙ (c : Dev nD) : sProp 𝕄 := iprop(StableHlo.held (c : Thread nD τ) (Pipeline.ucRefs τ sig) (W3 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (V2 m ρ) c
    unfold Pipeline.ΦA at h
    refine .trans ?_ h
    iintro ⟨Hp, -, Hr⟩
    isplitl [Hr]; · iexact Hr
    iexact Hp
  hout c := by
    rw [Pipeline.ownSems0_none]
    have h := hout1 (V2 m ρ) c
    unfold Pipeline.ΦA at h
    refine .trans h ?_
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 3 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: from any memory with zero counters every execution ends, nothing faulting, with every unscoped buffer at the last
    boundary's contents and every semaphore counter at zero. -/
theorem whole_run : θ_run defs (onTc (τ := τ) (main (F := F))) ⟨m, fun _ => 0, ρ⟩ (fun r =>
      (∀ c : Dev nD, ∀ b ∈ Pipeline.ucRefs τ sig, r.2.mem (((c : Thread nD τ)).1, b) = W3 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨h, funext fun g => hz g (.inr (no_unscoped g.2))⟩)

/-- The frame: the argument arrays end as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  (θ_run defs _ _).mono (fun r h => ⟨fun c => ⟨(h.1 c _ (mem_uc main_arg0 (by decide))).trans (W3_args m ρ c main_arg0 (by decide)),
      (h.1 c _ (mem_uc main_arg1 (by decide))).trans (W3_args m ρ c main_arg1 (by decide)),
      (h.1 c _ (mem_uc main_arg2 (by decide))).trans (W3_args m ρ c main_arg2 (by decide)),
      (h.1 c _ (mem_uc main_arg3 (by decide))).trans (W3_args m ρ c main_arg3 (by decide)),
      (h.1 c _ (mem_uc main_arg4 (by decide))).trans (W3_args m ρ c main_arg4 (by decide)),
      (h.1 c _ (mem_uc main_arg5 (by decide))).trans (W3_args m ρ c main_arg5 (by decide)),
      (h.1 c _ (mem_uc main_arg6 (by decide))).trans (W3_args m ρ c main_arg6 (by decide)),
      (h.1 c _ (mem_uc main_arg7 (by decide))).trans (W3_args m ρ c main_arg7 (by decide)),
      (h.1 c _ (mem_uc main_arg8 (by decide))).trans (W3_args m ρ c main_arg8 (by decide)),
      (h.1 c _ (mem_uc main_arg9 (by decide))).trans (W3_args m ρ c main_arg9 (by decide)),
      (h.1 c _ (mem_uc main_arg10 (by decide))).trans (W3_args m ρ c main_arg10 (by decide)),
      (h.1 c _ (mem_uc main_arg11 (by decide))).trans (W3_args m ρ c main_arg11 (by decide)),
      (h.1 c _ (mem_uc main_arg12 (by decide))).trans (W3_args m ρ c main_arg12 (by decide)),
      (h.1 c _ (mem_uc main_arg13 (by decide))).trans (W3_args m ρ c main_arg13 (by decide)),
      (h.1 c _ (mem_uc main_arg14 (by decide))).trans (W3_args m ρ c main_arg14 (by decide)),
      (h.1 c _ (mem_uc main_arg15 (by decide))).trans (W3_args m ρ c main_arg15 (by decide)),
      (h.1 c _ (mem_uc main_arg16 (by decide))).trans (W3_args m ρ c main_arg16 (by decide)),
      (h.1 c _ (mem_uc main_arg17 (by decide))).trans (W3_args m ρ c main_arg17 (by decide)),
      (h.1 c _ (mem_uc main_arg18 (by decide))).trans (W3_args m ρ c main_arg18 (by decide))⟩, h.2⟩) (whole_run m ρ)

end Cert.KernelIdeal.Whole
-- ==== Proof.Same.lean ====
/- The kernel program and its idealized form are one text, so the one frame, stated for any float operations, serves both. -/
module

public import proofs.«01_k».proof.Defs
public import proofs.«01_k».proof.Proof.Gen.Kernel
public import proofs.«01_k».proof.Proof.Gen.Kernel.Launch
public import proofs.«01_k».proof.Proof.Whole

@[expose] public section

set_option maxRecDepth 100000

noncomputable section

namespace Cert.Kernel.Whole

open Idealize.ShloMosaic Idealize.ShloMosaic.TcCoe Idealize.SL.Sem

attribute [local instance] Cert.Kernel.Gen.facts Cert.KernelIdeal.Gen.facts

theorem sig_eq : Cert.Kernel.sig = Cert.KernelIdeal.sig := by chain_rfl
theorem main_eq {F : FTy → Type} [FloatOps F] : Cert.Kernel.main (F := F) = Cert.KernelIdeal.main (F := F) := by chain_rfl
theorem defs_eq {F : FTy → Type} [FloatOps F] : Cert.Kernel.defs (F := F) = Cert.KernelIdeal.defs (F := F) := by chain_rfl

/-- The frame of the one program read as a statement of the other. -/
theorem frame_eq : (∀ m g, True → type_of% (Cert.KernelIdeal.Whole.frame (F := Bits) m g)) = Cert.quiescent_Kernel := by chain_rfl

/-- The kernel's frame, from the other's by the equality of their texts. -/
theorem quiescent : Cert.quiescent_Kernel := frame_eq.mp fun m g _ => Cert.KernelIdeal.Whole.frame (F := Bits) m g

end Cert.Kernel.Whole
-- ==== Proof.RefRun.lean ====
/- The reference program's run with its semaphore counters, for any float operations: the stretches before the loop, the
   counted loop and the stretch after it as segments of the launch theorem that also reads the counters. -/
module

public import proofs.«01_k».proof.Proof.Gen.ReferenceIdeal.Run

@[expose] public section

set_option maxRecDepth 16384

noncomputable section

namespace Cert.ReferenceIdeal.Whole

open Cert.ReferenceIdeal Cert.ReferenceIdeal.Gen Cert.ReferenceIdeal.Value
open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (CSeg ucRefs)

variable {F : FTy → Type} [FloatOps F]

/-- The ghost state of a run with no pipeline: nothing of it is used. -/
local notation "𝕄" => MT nD τ sig Unit (Elt F) ℕ (Option PUnit) ℕ

variable (m : (ℓ : Loc nD τ sig) → Buf (Elt F) ℓ) (ρ : Dev nD → PrngReg)

/-- There is no pipeline, so nothing is admitted, ticketed or levelled. -/
abbrev noAdm : (p : Fin 0) → (pcfgs (F := F) p).Adm := fun p => p.elim0
abbrev noTk : Fin 0 → Pipeline.Ticket (Ix := Unit) (Name := ℕ) (U := Option PUnit) (Lvl := ℕ) (nD := nD) (τ := τ) (pcfgs (F := F)) noAdm := fun j => j.elim0
abbrev noL : GSem nD τ sig → Finset Unit := fun _ => ∅
abbrev zeroLv : GSem nD τ sig → Unit → ℕ := fun _ _ => 0
theorem noCell : Function.Injective (Pipeline.cellOf (nD := nD) (τ := τ) (Pipeline.pin (pcfgs (F := F)) noAdm)) := fun k => k.1.elim0

/-- What rides along beside the buffers: the core's own debt, which stays empty. -/
abbrev debt (c : Dev nD) : sProp 𝕄 := iprop(∃ W, owes (c : Thread nD τ) (0 : CellTallies nD τ sig Unit) W)

/-- The condition's specification with the debt carried through. -/
theorem cond_debt : LoopCond (pcfgs (F := F)) defs₀ Variants.none loops debt (main_while0_cond (F := F)) condOps bodyI (entryContents preI m) 128 :=
  fun k hk c bd => by
    have hc := cond_spec m k hk c bd
    refine BIBase.Entails.trans (Q := iprop(iprop(boundary (c : Thread nD τ) ∗ held (c : Thread nD τ) (ucRefs τ sig) (atTrip condOps bodyI (entryContents preI m) k c)) ∗ debt c)) ?_
      (((sep_mono_left hc).trans (wp_frame_r (R := debt c) _ _ _)).trans (wp_mono _ _ _ fun v => ?_))
    · iintro ⟨Hb, Hh, HR⟩
      isplitl [Hb Hh]
      · isplitl [Hb] <;> iassumption
      iexact HR
    · iintro ⟨⟨%hv, Hb, Hh⟩, HR⟩
      isplitr; · ipureintro; exact hv
      isplitl [Hb]; · iexact Hb
      isplitl [Hh] <;> iassumption

/-- The three parts of @main as segments. -/
abbrev before : List (CSeg (pcfgs (F := F)) noAdm defs₀ Variants.none noL zeroLv loops noTk) :=
  segsOf _ _ _ _ _ _ _ _ debt preI hpre (launchContents m)
abbrev theLoop : CSeg (pcfgs (F := F)) noAdm defs₀ Variants.none noL zeroLv loops noTk :=
  loopSeg _ _ _ _ _ _ _ _ 0 main_while0_cond main_while0_body rfl condOps bodyI hbodyI (by rw [while0_body_chain]; rfl) 128
    (entryContents preI m) debt (cond_debt m)
abbrev behind : List (CSeg (pcfgs (F := F)) noAdm defs₀ Variants.none noL zeroLv loops noTk) :=
  segsOf _ _ _ _ _ _ _ _ debt postI hpost (fun c => after condOps (atTrip condOps bodyI (entryContents preI m) 128 c))
abbrev parts : List (CSeg (pcfgs (F := F)) noAdm defs₀ Variants.none noL zeroLv loops noTk) := before m ++ theLoop m :: behind m

theorem parts_prog : (parts m).map CSeg.prog
    = (preI.map fun ops => (seq ops : Prog _ PUnit)) ++ HostLoop.enter 0 :: postI.map fun ops => (seq ops : Prog _ PUnit) := by
  unfold parts before behind
  rw [List.map_append, List.map_cons, segsOf_prog, segsOf_prog]
  rfl

theorem parts_chain : CSeg.Chains (fun c => iprop(held (c : Thread nD τ) (ucRefs τ sig) (launchContents m c) ∗ debt c)) (parts m)
    (fun c => iprop(iprop(held (c : Thread nD τ) (ucRefs τ sig) (finalContents condOps preI bodyI postI 128 m c)) ∗ ∃ W, owes (c : Thread nD τ) (0 : CellTallies nD τ sig Unit) W)) :=
  CSeg.Chains.append (segsOf_chains _ _ _ _ _ _ _ _ debt preI hpre _) ⟨fun _ => .rfl, segsOf_chains _ _ _ _ _ _ _ _ debt postI hpost _⟩

/-- The TensorCore has no unscoped semaphore. -/
theorem no_unscoped : ∀ sm : SemLoc sig, sm.isScoped .tc = true := by decide

set_option maxRecDepth 100000 in
/-- From any memory with zero counters every execution ends with every buffer of a tensor value at the fold and every
    semaphore counter at zero. -/
theorem whole_run : θ_run (defs (F := F)) (onTc (τ := τ) (main (F := F))) ⟨m, fun _ => 0, ρ⟩
    (fun r => (∀ (c : Dev nD) (b : Ref sig .tc), (Proc.devRef .tc b : DevRef τ sig).isScoped = false →
      r.2.mem ((c.tc : Thread nD τ).loc b) = finalContents condOps preI bodyI postI 128 m c (Proc.devRef .tc b)) ∧ r.2.sem = fun _ => 0) :=
  Pipeline.θ_run_regions_loop_kit_sems (Ix := Unit) (Name := ℕ) (U := Option PUnit) (Lvl := ℕ) (J := Fin 0) (P := Fin 0) (Val := Elt F)
    pcfgs noAdm noCell defs₀ Variants.none noL zeroLv loops noTk m ρ main (parts m)
    (fun c Q => by
      rw [show main (F := F) c = Pipeline.chain ((preI.map fun ops => (seq ops : Prog _ PUnit)) ++ HostLoop.enter 0 :: postI.map fun ops => (seq ops : Prog _ PUnit)) from by rw [main_chain]; rfl]
      show wp _ _ _ (Pipeline.chain ((parts m).map CSeg.prog)) Q ⊢ _
      rw [parts_prog])
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ debt c))
    (Tₙ := fun c => iprop(held (c : Thread nD τ) (ucRefs τ sig) (finalContents condOps preI bodyI postI 128 m c)))
    (hch := parts_chain m)
    (hinit := by
      refine Pipeline.initEach noL zeroLv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = finalContents condOps preI bodyI postI 128 m c b)
    (hfin := fun c s' => by
      unfold held
      iintro ⟨Hh, HSI⟩
      imodintro
      iapply (pointsTo_read_all (ucRefs τ sig) (fun b => ((c : Dev nD), b)) (fun b => finalContents condOps preI bodyI postI 128 m c b) s')
      isplitl [Hh] <;> iassumption)
    (hQ := fun s h hz => ⟨fun c b hb => h c _ (devRef_mem_ucRefs b hb), funext fun g => hz g (.inr (no_unscoped g.2))⟩)

/-! ## A buffer the program never writes ends as launched -/

/-- A stretch writes only the buffers its list names. -/
theorem after_kept {ops : List (HloOp τ sig (Elt F))} {W : List (Ref sig .tc)}
    (h : ops.Forall fun op => op.writes ⊆ (W.map (Proc.devRef (τ := τ) .tc)).toFinset) (V : Valuation τ sig (Elt F)) (r : Ref sig .tc) (hr : r ∉ W) :
    after ops V (Proc.devRef .tc r) = V (Proc.devRef .tc r) := after_of_writes_sub ops V h hr

/-- Every buffer some operation of @main writes before the loop. -/
abbrev written : List (Ref sig .tc) := hostOps0_W ++ hostOps0_1_W ++ hostOps0_2_W ++ hostOps0_3_W ++ hostOps0_4_W
/-- Every buffer some operation of the loop writes. -/
abbrev writtenLoop : List (Ref sig .tc) := condOps_W ++ while0Ops0_W ++ while0Ops0_1_W

theorem entry_kept (c : Dev nD) (r : Ref sig .tc) (hr : r ∉ written) :
    entryContents preI m c (Proc.devRef .tc r) = m ((c.tc : Thread nD τ).loc r) := by
  simp only [written, List.mem_append, not_or] at hr
  simp only [entryContents, afterL_cons, afterL_nil]
  rw [after_kept hostOps0_4_writes _ _ hr.2, after_kept hostOps0_3_writes _ _ hr.1.2, after_kept hostOps0_2_writes _ _ hr.1.1.2,
    after_kept hostOps0_1_writes _ _ hr.1.1.1.2, after_kept hostOps0_writes _ _ hr.1.1.1.1]

theorem loop_kept (c : Dev nD) (r : Ref sig .tc) (hr : r ∉ writtenLoop) : ∀ k,
    atK m k c (Proc.devRef .tc r) = entryContents preI m c (Proc.devRef .tc r)
  | 0 => rfl
  | k + 1 => by
    have hr' := hr
    simp only [writtenLoop, List.mem_append, not_or] at hr'
    rw [show atK m (k + 1) c = afterL bodyI (after condOps (atK m k c)) from rfl]
    simp only [afterL_cons, afterL_nil]
    rw [after_kept while0Ops0_1_writes _ _ hr'.2, after_kept while0Ops0_writes _ _ hr'.1.2, after_kept condOps_writes _ _ hr'.1.1, loop_kept c r hr k]
    simp only [entryContents, afterL_cons, afterL_nil]

/-- A buffer neither the loop nor the stretch after it writes ends as the loop found it. -/
theorem final_entry (c : Dev nD) (r : Ref sig .tc) (hr : r ∉ writtenLoop ++ hostOps0_5_W) :
    finalContents condOps preI bodyI postI 128 m c (Proc.devRef .tc r) = entryContents preI m c (Proc.devRef .tc r) := by
  simp only [List.mem_append, not_or] at hr
  have hl : r ∉ writtenLoop := by simp only [writtenLoop, List.mem_append, not_or]; exact hr.1
  simp only [finalContents, afterL_cons, afterL_nil]
  rw [after_kept hostOps0_5_writes _ _ hr.2, after_kept condOps_writes _ _ hr.1.1.1]
  exact loop_kept m c r hl 128

theorem kept (c : Dev nD) (r : Ref sig .tc) (hr : r ∉ written ++ (writtenLoop ++ hostOps0_5_W)) :
    finalContents condOps preI bodyI postI 128 m c (Proc.devRef .tc r) = m ((c.tc : Thread nD τ).loc r) :=
  (final_entry m c r fun h => hr (List.mem_append_right _ h)).trans (entry_kept m c r fun h => hr (List.mem_append_left _ h))

/-- The frame: the argument arrays end as launched and every semaphore counter at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  (θ_run defs _ _).mono (fun r h => ⟨fun c => ⟨(h.1 c main_arg0 (by decide)).trans (kept m c main_arg0 (by decide +kernel)),
      (h.1 c main_arg1 (by decide)).trans (kept m c main_arg1 (by decide +kernel)),
      (h.1 c main_arg2 (by decide)).trans (kept m c main_arg2 (by decide +kernel)),
      (h.1 c main_arg3 (by decide)).trans (kept m c main_arg3 (by decide +kernel)),
      (h.1 c main_arg4 (by decide)).trans (kept m c main_arg4 (by decide +kernel)),
      (h.1 c main_arg5 (by decide)).trans (kept m c main_arg5 (by decide +kernel)),
      (h.1 c main_arg6 (by decide)).trans (kept m c main_arg6 (by decide +kernel)),
      (h.1 c main_arg7 (by decide)).trans (kept m c main_arg7 (by decide +kernel)),
      (h.1 c main_arg8 (by decide)).trans (kept m c main_arg8 (by decide +kernel)),
      (h.1 c main_arg9 (by decide)).trans (kept m c main_arg9 (by decide +kernel)),
      (h.1 c main_arg10 (by decide)).trans (kept m c main_arg10 (by decide +kernel)),
      (h.1 c main_arg11 (by decide)).trans (kept m c main_arg11 (by decide +kernel)),
      (h.1 c main_arg12 (by decide)).trans (kept m c main_arg12 (by decide +kernel)),
      (h.1 c main_arg13 (by decide)).trans (kept m c main_arg13 (by decide +kernel)),
      (h.1 c main_arg14 (by decide)).trans (kept m c main_arg14 (by decide +kernel)),
      (h.1 c main_arg15 (by decide)).trans (kept m c main_arg15 (by decide +kernel)),
      (h.1 c main_arg16 (by decide)).trans (kept m c main_arg16 (by decide +kernel)),
      (h.1 c main_arg17 (by decide)).trans (kept m c main_arg17 (by decide +kernel)),
      (h.1 c main_arg18 (by decide)).trans (kept m c main_arg18 (by decide +kernel))⟩, h.2⟩) (whole_run m ρ)

end Cert.ReferenceIdeal.Whole
-- ==== Proof.Cell.lean ====
/- The mathematics both programs compute, over the extended reals and plain coordinates: the logistic function and its
   form by the hyperbolic tangent, the first place of a maximum, a memory row's update, the gates and the cell. -/
module

public import Idealize.ShloMosaic.Lib.Pointwise

@[expose] public section

noncomputable section

namespace Cert.Cell

open Idealize.ShloMosaic

/-- The constant one half. -/
abbrev half : EReal := Ideal.ofBits .f32 0x3F000000#32

theorem half_eq : half = ((1 / 2 : ℝ) : EReal) := by
  simp [half, Ideal.ofBits, Ideal.ieee, -EReal.coe_mul]; norm_num

/-- The logistic function as the reference writes it: `1 / (1 + exp (-x))`. -/
abbrev sg (x : EReal) : EReal := Ideal.logistic x

theorem half_tanh (r : ℝ) : (1 / 2) * Real.tanh (1 / 2 * r) + 1 / 2 = (1 + Real.exp (-r))⁻¹ := by
  have h1 : Real.exp (-(1/2*r)) = (Real.exp (1/2*r))⁻¹ := Real.exp_neg _
  have h2 : Real.exp (-r) = (Real.exp (1/2*r))⁻¹ * (Real.exp (1/2*r))⁻¹ := by
    rw [← Real.exp_neg, ← Real.exp_add]; congr 1; ring
  rw [Real.tanh_eq_sinh_div_cosh, Real.sinh_eq, Real.cosh_eq, h1, h2]
  have hp := Real.exp_pos (1/2*r)
  generalize Real.exp (1/2*r) = e at hp
  have hp' : e ≠ 0 := ne_of_gt hp
  field_simp
  ring

/-- The kernel's form of the logistic function, at every extended real. -/
theorem sg_tanh (x : EReal) : half * Ideal.tanh (half * x) + half = sg x := by
  rw [half_eq]; unfold sg
  induction x using EReal.rec with
  | bot =>
    rw [EReal.coe_mul_bot_of_pos (by norm_num), Ideal.tanh_bot, Ideal.logistic_bot, mul_neg, mul_one, ← EReal.coe_neg, ← EReal.coe_add]
    norm_num
  | top =>
    rw [EReal.coe_mul_top_of_pos (by norm_num), Ideal.tanh_top, Ideal.logistic_top]
    norm_cast; norm_num
  | coe r =>
    rw [← EReal.coe_mul, Ideal.tanh_coe, ← EReal.coe_mul, ← EReal.coe_add, half_tanh, ← Ideal.logistic_coe]

/-- A row's first place of its greatest value. -/
def IsFirst (f : Fin 128 → EReal) (i : Fin 128) : Prop := (∀ j, f j ≤ f i) ∧ ∀ j, j < i → f j < f i

theorem exists_first (f : Fin 128 → EReal) : ∃ i, IsFirst f i := by
  obtain ⟨m, hm⟩ := Finite.exists_max f
  have hne : (Finset.univ.filter fun i => f i = f m).Nonempty := ⟨m, by simp⟩
  refine ⟨(Finset.univ.filter fun i => f i = f m).min' hne, ?_, ?_⟩
  · intro j
    have := (Finset.mem_filter.mp (Finset.min'_mem _ hne)).2
    rw [this]; exact hm j
  · intro j hj
    have h1 := (Finset.mem_filter.mp (Finset.min'_mem _ hne)).2
    rw [h1]
    refine lt_of_le_of_ne (hm j) fun he => ?_
    exact absurd (Finset.min'_le _ j (by simp [he])) (not_le.mpr hj)

/-- The first place of a row's greatest value. -/
def fst (f : Fin 128 → EReal) : Fin 128 := Classical.choose (exists_first f)
theorem fst_spec (f : Fin 128 → EReal) : IsFirst f (fst f) := Classical.choose_spec (exists_first f)

theorem fst_unique {f : Fin 128 → EReal} {i : Fin 128} (h : IsFirst f i) : i = fst f := by
  have h' := fst_spec f
  rcases lt_trichotomy i (fst f) with hlt | he | hgt
  · exact absurd (h'.2 i hlt) (not_lt.mpr (h.1 _))
  · exact he
  · exact absurd (h.2 _ hgt) (not_lt.mpr (h'.1 _))

theorem ninf_eq : Ideal.ofBits .f32 0xFF800000#32 = (⊥ : EReal) := by
  simp [Ideal.ofBits, Ideal.ieee]

theorem pinf_eq : Ideal.ofBits .f32 0x7F800000#32 = (⊤ : EReal) := by
  simp [Ideal.ofBits, Ideal.ieee]

/-- The filler of the masked row of places: one thousand million. -/
theorem big_eq : Ideal.ofBits .f32 0x4E6E6B28#32 = ((1000000000 : ℝ) : EReal) := by
  simp [Ideal.ofBits, Ideal.ieee, -EReal.coe_mul]; norm_num

/-- A row's greatest value, folded from below, is its value at the first place of the maximum. -/
theorem fold_max_eq (f : Fin 128 → EReal) : Finset.fold max ⊥ f Finset.univ = f (fst f) := by
  refine le_antisymm ?_ ?_
  · exact (Finset.fold_max_le _).mpr ⟨bot_le, fun x _ => (fst_spec f).1 x⟩
  · exact (Finset.le_fold_max _).mpr (.inr ⟨fst f, Finset.mem_univ _, le_rfl⟩)

/-- The least place among those whose value is at least the greatest one is the first place of the maximum. -/
theorem fold_min_eq (f : Fin 128 → EReal) :
    Finset.fold min ⊤ (fun x : Fin 128 => if f (fst f) ≤ f x then ((x.val : ℝ) : EReal) else ((1000000000 : ℝ) : EReal)) Finset.univ
      = (((fst f).val : ℝ) : EReal) := by
  refine le_antisymm ?_ ?_
  · exact (Finset.fold_min_le _).mpr (.inr ⟨fst f, Finset.mem_univ _, by simp⟩)
  · refine (Finset.le_fold_min _).mpr ⟨le_top, fun x _ => ?_⟩
    split
    · next h =>
      have hx : fst f ≤ x := not_lt.mp fun hlt => absurd h (not_le.mpr ((fst_spec f).2 x hlt))
      exact_mod_cast hx
    · have := (fst f).isLt
      rw [EReal.coe_le_coe_iff]
      have h2 : ((fst f).val : ℝ) ≤ 128 := by exact_mod_cast this.le
      linarith

end Cert.Cell

end
-- ==== Proof.Spec.lean ====
/- What both programs compute, written once over plain coordinates: the memory's update, the cell run along the memory's
   slots, and the outer cell. Every number is an extended real. -/
module

public import proofs.«01_k».proof.Proof.Cell

@[expose] public section

noncomputable section

namespace Cert.Cell

open Idealize.ShloMosaic

/-- The arguments, each as a function of its coordinates. -/
structure In where
  x : Fin 1024 → Fin 128 → EReal
  h0 : Fin 1024 → Fin 128 → EReal
  c0 : Fin 1024 → Fin 128 → EReal
  S : Fin 1024 → Fin 128 → Fin 128 → EReal
  C : Fin 1024 → Fin 128 → Fin 128 → EReal
  dt : Fin 1024 → Fin 128 → EReal
  wq : Fin 128 → Fin 128 → EReal
  wk : Fin 128 → Fin 128 → EReal
  wv : Fin 128 → Fin 128 → EReal
  bv : Fin 128 → EReal
  wi : Fin 512 → Fin 257 → EReal
  wh : Fin 512 → Fin 128 → EReal
  bi : Fin 512 → EReal
  bh : Fin 512 → EReal
  oi : Fin 512 → Fin 256 → EReal
  ob : Fin 512 → EReal
  oh : Fin 512 → Fin 128 → EReal

/-- The similarity of row `b` and slot `n`. -/
def In.sim (I : In) (b : Fin 1024) (n : Fin 128) : EReal := ∑ h : Fin 128, (∑ d : Fin 128, I.S b n d * I.wk h d) * ∑ d : Fin 128, I.x b d * I.wq h d
/-- The slot written: the first of the most similar. -/
def In.pick (I : In) (b : Fin 1024) : Fin 128 := fst (I.sim b)
/-- The value written to it. -/
def In.val (I : In) (b : Fin 1024) (d : Fin 128) : EReal := (∑ k : Fin 128, I.x b k * I.wv d k) + I.bv d
/-- The slots after the write. -/
def In.slot (I : In) (b : Fin 1024) (n d : Fin 128) : EReal := if n = I.pick b then I.val b d else I.S b n d
/-- The sums after the write. -/
def In.cum (I : In) (b : Fin 1024) (n d : Fin 128) : EReal := if n = I.pick b then I.x b d else I.C b n d + I.x b d
/-- The ages after the write. -/
def In.age (I : In) (b : Fin 1024) (n : Fin 128) : EReal := if n = I.pick b then 0 else I.dt b n + 1
/-- The part of the gates of slot `n` that the state does not enter. -/
def In.gate (I : In) (n : Fin 128) (b : Fin 1024) (g : Fin 512) : EReal :=
  (∑ d : Fin 128, I.slot b n d * I.wi g ⟨d.val, by omega⟩) + (∑ d : Fin 128, I.cum b n d * I.wi g ⟨128 + d.val, by omega⟩)
    + I.age b n * I.wi g ⟨256, by omega⟩ + (I.bi g + I.bh g)

/-- The cell state from the gates and the cell state before. -/
def cellC (G : Fin 512 → EReal) (c : Fin 128 → EReal) (d : Fin 128) : EReal :=
  sg (G ⟨128 + d.val, by omega⟩) * c d + sg (G ⟨d.val, by omega⟩) * Ideal.tanh (G ⟨256 + d.val, by omega⟩)
/-- The hidden state. -/
def cellH (G : Fin 512 → EReal) (c : Fin 128 → EReal) (d : Fin 128) : EReal := sg (G ⟨384 + d.val, by omega⟩) * Ideal.tanh (cellC G c d)

/-- The gates of slot `n` at the hidden state `h`. -/
def In.gates (I : In) (n : Fin 128) (b : Fin 1024) (h : Fin 128 → EReal) (g : Fin 512) : EReal := I.gate n b g + ∑ d : Fin 128, h d * I.wh g d

/-- The hidden and the cell state of row `b` after `k` slots, from zeros. -/
def In.st (I : In) (b : Fin 1024) : ℕ → (Fin 128 → EReal) × (Fin 128 → EReal)
  | 0 => (fun _ => 0, fun _ => 0)
  | k + 1 =>
    (cellH (I.gates ⟨k % 128, Nat.mod_lt _ (by norm_num)⟩ b (I.st b k).1) (I.st b k).2, cellC (I.gates ⟨k % 128, Nat.mod_lt _ (by norm_num)⟩ b (I.st b k).1) (I.st b k).2)

/-- The memory's answer: the hidden state after all the slots. -/
def In.mem (I : In) (b : Fin 1024) (d : Fin 128) : EReal := (I.st b 128).1 d
/-- The outer cell's gates. -/
def In.outG (I : In) (b : Fin 1024) (g : Fin 512) : EReal :=
  ((∑ d : Fin 128, I.x b d * I.oi g ⟨d.val, by omega⟩) + (∑ d : Fin 128, I.mem b d * I.oi g ⟨128 + d.val, by omega⟩) + I.ob g) + ∑ d : Fin 128, I.h0 b d * I.oh g d
/-- The new cell state. -/
def In.newC (I : In) (b : Fin 1024) (d : Fin 128) : EReal := cellC (I.outG b) (I.c0 b) d
/-- The new hidden state. -/
def In.newH (I : In) (b : Fin 1024) (d : Fin 128) : EReal := cellH (I.outG b) (I.c0 b) d

end Cert.Cell
-- ==== Proof.KIn.lean ====
/- The kernel program's arguments as plain functions, and what the host operations before the two regions leave at an index. -/
module

public import proofs.«01_k».proof.Proof.Spec
public import proofs.«01_k».proof.Proof.Whole
public import Idealize.ShloMosaic.Lib.Pointwise
public import Idealize.ShloMosaic.Lib.StableHlo.ReadAt

@[expose] public section

set_option maxRecDepth 16384

noncomputable section

namespace Cert.KernelIdeal.Whole

open Cert.KernelIdeal Cert.KernelIdeal.Gen Cert.Cell
open Idealize.ShloMosaic Idealize.ShloMosaic.TcCoe Idealize.ShloMosaic.StableHlo

variable (m : (ℓ : Loc nD τ sig) → Buf (Elt Ideal) ℓ) (ρ : Dev nD → PrngReg) (c : Dev nD)

/-- The arguments of core `c`. -/
def kIn : In where
  x b d := (m ((c.tc : Thread nD τ).loc main_arg0) : Vec Ideal S1024x128 .f32) (ix2 b d)
  h0 b d := (m ((c.tc : Thread nD τ).loc main_arg1) : Vec Ideal S1024x128 .f32) (ix2 b d)
  c0 b d := (m ((c.tc : Thread nD τ).loc main_arg2) : Vec Ideal S1024x128 .f32) (ix2 b d)
  S b n d := (m ((c.tc : Thread nD τ).loc main_arg4) : Vec Ideal S1024x128x128 .f32) (ix3 b n d)
  C b n d := (m ((c.tc : Thread nD τ).loc main_arg5) : Vec Ideal S1024x128x128 .f32) (ix3 b n d)
  dt b d := (m ((c.tc : Thread nD τ).loc main_arg6) : Vec Ideal S1024x128 .f32) (ix2 b d)
  wq b d := (m ((c.tc : Thread nD τ).loc main_arg8) : Vec Ideal S128x128 .f32) (ix2 b d)
  wk b d := (m ((c.tc : Thread nD τ).loc main_arg9) : Vec Ideal S128x128 .f32) (ix2 b d)
  wv b d := (m ((c.tc : Thread nD τ).loc main_arg10) : Vec Ideal S128x128 .f32) (ix2 b d)
  bv d := (m ((c.tc : Thread nD τ).loc main_arg11) : Vec Ideal S128 .f32) (ix1 d)
  wi b d := (m ((c.tc : Thread nD τ).loc main_arg12) : Vec Ideal S512x257 .f32) (ix2 b d)
  wh b d := (m ((c.tc : Thread nD τ).loc main_arg13) : Vec Ideal S512x128 .f32) (ix2 b d)
  bi d := (m ((c.tc : Thread nD τ).loc main_arg14) : Vec Ideal S512 .f32) (ix1 d)
  bh d := (m ((c.tc : Thread nD τ).loc main_arg15) : Vec Ideal S512 .f32) (ix1 d)
  oi b d := (m ((c.tc : Thread nD τ).loc main_arg16) : Vec Ideal S512x256 .f32) (ix2 b d)
  ob d := (m ((c.tc : Thread nD τ).loc main_arg17) : Vec Ideal S512 .f32) (ix1 d)
  oh b d := (m ((c.tc : Thread nD τ).loc main_arg18) : Vec Ideal S512x128 .f32) (ix2 b d)

/-! ## The arrays the regions take, at an index -/

theorem w_wq (a b : Fin 128) : ((W1 m ρ c (Proc.devRef .tc main_call0_v0) : Vec Ideal S128x128 .f32) (ix2 a b) : EReal) = (kIn m c).wq b a := by
  unfold W1 kIn; after_reads_at
theorem w_wk (a b : Fin 128) : ((W1 m ρ c (Proc.devRef .tc main_call0_v1) : Vec Ideal S128x128 .f32) (ix2 a b) : EReal) = (kIn m c).wk b a := by
  unfold W1 kIn; after_reads_at
theorem w_wv (a b : Fin 128) : ((W1 m ρ c (Proc.devRef .tc main_call0_v2) : Vec Ideal S128x128 .f32) (ix2 a b) : EReal) = (kIn m c).wv b a := by
  unfold W1 kIn; after_reads_at
theorem w_wa (a : Fin 128) (g : Fin 512) : ((W1 m ρ c (Proc.devRef .tc main_call0_v5) : Vec Ideal S128x512 .bf16) (ix2 a g) : EReal) = (kIn m c).wi g ⟨a.val, by omega⟩ := by
  unfold W1 kIn; after_reads_at
theorem w_wb (a : Fin 128) (g : Fin 512) : ((W1 m ρ c (Proc.devRef .tc main_call0_v8) : Vec Ideal S128x512 .bf16) (ix2 a g) : EReal) = (kIn m c).wi g ⟨128 + a.val, by omega⟩ := by
  unfold W1 kIn; after_reads_at
theorem w_wd (g : Fin 512) : ((W1 m ρ c (Proc.devRef .tc main_call0_v11) : Vec Ideal S1x1x512 .f32) (ix3 0 0 g) : EReal) = (kIn m c).wi g ⟨256, by omega⟩ := by
  unfold W1 kIn; after_reads_at
theorem w_bb (g : Fin 512) : ((W1 m ρ c (Proc.devRef .tc main_call0_v13) : Vec Ideal S1x1x512 .f32) (ix3 0 0 g) : EReal) = (kIn m c).bi g + (kIn m c).bh g := by
  unfold W1 kIn; after_reads_at
theorem w_wh (a : Fin 128) (g : Fin 512) : ((W1 m ρ c (Proc.devRef .tc main_call0_v15) : Vec Ideal S128x512 .bf16) (ix2 a g) : EReal) = (kIn m c).wh g a := by
  unfold W1 kIn; after_reads_at
theorem w_ox (a : Fin 128) (g : Fin 512) : ((W1 m ρ c (Proc.devRef .tc main_call0_v18) : Vec Ideal S128x512 .bf16) (ix2 a g) : EReal) = (kIn m c).oi g ⟨a.val, by omega⟩ := by
  unfold W1 kIn; after_reads_at
theorem w_om (a : Fin 128) (g : Fin 512) : ((W1 m ρ c (Proc.devRef .tc main_call0_v21) : Vec Ideal S128x512 .bf16) (ix2 a g) : EReal) = (kIn m c).oi g ⟨128 + a.val, by omega⟩ := by
  unfold W1 kIn; after_reads_at
theorem w_ob (g : Fin 512) : ((W1 m ρ c (Proc.devRef .tc main_call0_v22) : Vec Ideal S1x512 .f32) (ix2 0 g) : EReal) = (kIn m c).ob g := by
  unfold W1 kIn; after_reads_at
theorem w_oh (a : Fin 128) (g : Fin 512) : ((W1 m ρ c (Proc.devRef .tc main_call0_v24) : Vec Ideal S128x512 .bf16) (ix2 a g) : EReal) = (kIn m c).oh g a := by
  unfold W1 kIn; after_reads_at
theorem w_bv (d : Fin 128) : ((W1 m ρ c (Proc.devRef .tc main_call0_v25) : Vec Ideal S1x128 .f32) (ix2 0 d) : EReal) = (kIn m c).bv d := by
  unfold W1 kIn; after_reads_at

end Cert.KernelIdeal.Whole
-- ==== Proof.Blocks.lean ====
/- What one point of the first launch leaves in its output blocks, element by element, over the extended reals: the
   row's similarities, the place of the greatest, the updated memory, sums and ages, and the gates' input part. -/
module

public import proofs.«01_k».proof.Proof.Mem
public import proofs.«01_k».proof.Proof.Cell

@[expose] public section

noncomputable section

namespace Cert.KernelIdeal.Whole

open Cert.KernelIdeal Cert.KernelIdeal.Gen
open Idealize.ShloMosaic Cert.Cell

set_option maxRecDepth 16384

/-! ## Flat positions split again -/

theorem flat_div (a : Fin 16) (b : Fin 64) (h : (a.val * 64 + b.val) / 64 < 16) : (⟨(a.val * 64 + b.val) / 64, h⟩ : Fin 16) = a :=
  Fin.ext (by show (a.val * 64 + b.val) / 64 = a.val; omega)
theorem flat_mod (a : Fin 16) (b : Fin 64) (h : (a.val * 64 + b.val) % 64 < 64) : (⟨(a.val * 64 + b.val) % 64, h⟩ : Fin 64) = b :=
  Fin.ext (by show (a.val * 64 + b.val) % 64 = b.val; omega)

/-! ## The place of the greatest similarity -/

/-- The one-hot row: one at the first place of the greatest similarity, zero elsewhere. -/
theorem oh_at (s : Vec Ideal S64x128 .f32) (b : Fin 64) (d : Fin 128) :
    (k0_pay14 (F := Ideal) s k0_pay13 (ix2 b d) : EReal) = if d = fst (fun n => s (ix2 b n)) then 1 else 0 := by
  have hw : ∀ x : Fin 128, (FloatOps.sitofp (F := Ideal) .f32 (BitVec.ofNat 32 x.val) : EReal) = ((x.val : ℝ) : EReal) := by
    intro x
    show (((BitVec.ofNat 32 x.val).toInt : ℝ) : EReal) = _
    rw [BitVec.toInt_ofNat', Int.bmod_eq_of_le (by omega) (by omega)]
    norm_cast
  pointwise [k0_pay14, k0_pay13]
  simp only [hw, ninf_eq, pinf_eq, big_eq]
  rw [fold_max_eq (fun x => s (ix2 b x)), fold_min_eq (fun x => s (ix2 b x))]
  generalize fst (fun x => s (ix2 b x)) = i
  have hd : (((d.val : ℝ) : EReal) = ((i.val : ℝ) : EReal)) ↔ d = i := by
    rw [EReal.coe_eq_coe_iff, Nat.cast_inj, Fin.ext_iff]
  simp only [hd]
  by_cases h : d = i
  · simp only [h, decide_true, if_true]; show (((_ : BitVec 32).toInt : ℝ) : EReal) = 1; simp
  · simp only [h, decide_false, if_false]; show (((_ : BitVec 32).toInt : ℝ) : EReal) = 0; simp

/-! ## The similarities -/

/-- A block's similarity of row `b` and slot `n`: the key of the slot against the query of the row. -/
def bsim (x0 : Vec Ideal S64x128 .f32) (x1 : Vec Ideal S64x128x128 .f32) (x4 x5 : Vec Ideal S128x128 .f32) (b : Fin 64) (n : Fin 128) : EReal :=
  ∑ h : Fin 128, (∑ d : Fin 128, x1 (ix3 b n d) * x5 (ix2 d h)) * ∑ d : Fin 128, x0 (ix2 b d) * x4 (ix2 d h)

theorem sims_at (x0 : Vec Ideal S64x128 .f32) (x1 x2 : Vec Ideal S64x128x128 .f32) (x3 : Vec Ideal S64x128 .f32) (x4 x5 x6 : Vec Ideal S128x128 .f32) (x7 : Vec Ideal S1x128 .f32) (x8 x9 : Vec Ideal S128x512 .bf16) (x10 x11 : Vec Ideal S1x1x512 .f32) (b : Fin 64) (n : Fin 128) :
    (k0_pay76 (F := Ideal) x0 x1 x2 x3 x4 x5 x6 x7 x8 x9 x10 x11 (ix2 b n) : EReal) = bsim x0 x1 x4 x5 b n := by
  have key : ∀ (b' : Fin 64) (n' : Fin 128), b' = b → n' = n →
      (∑ h : Fin 128, (∑ d : Fin 128, x1 (ix3 b' n' d) * x5 (ix2 d h)) * ∑ d : Fin 128, x0 (ix2 b d) * x4 (ix2 d h)) = bsim x0 x1 x4 x5 b n := by
    rintro b' n' rfl rfl; rfl
  unfold k0_pay76 k0_pay75
  unfold_payloads
  pointwise
  by_cases h0 : n.val < 16
  · rw [dif_pos h0]
    have hb : (b.val * 16 + n.val) / 16 = b.val := by omega
    have hm : (b.val * 16 + n.val) % 16 = n.val := by omega
    simp only [hb, hm]; exact key b n rfl rfl
  rw [dif_neg h0]
  by_cases h1 : n.val - 16 < 16
  · rw [dif_pos h1]
    have hb : (b.val * 16 + (n.val - 16)) / 16 = b.val := by omega
    have hm : 16 + (b.val * 16 + (n.val - 16)) % 16 = n.val := by omega
    simp only [hb, hm]; exact key b n rfl rfl
  rw [dif_neg h1]
  by_cases h2 : n.val - 16 - 16 < 16
  · rw [dif_pos h2]
    have hb : (b.val * 16 + (n.val - 16 - 16)) / 16 = b.val := by omega
    have hm : 32 + (b.val * 16 + (n.val - 16 - 16)) % 16 = n.val := by omega
    simp only [hb, hm]; exact key b n rfl rfl
  rw [dif_neg h2]
  by_cases h3 : n.val - 16 - 16 - 16 < 16
  · rw [dif_pos h3]
    have hb : (b.val * 16 + (n.val - 16 - 16 - 16)) / 16 = b.val := by omega
    have hm : 48 + (b.val * 16 + (n.val - 16 - 16 - 16)) % 16 = n.val := by omega
    simp only [hb, hm]; exact key b n rfl rfl
  rw [dif_neg h3]
  by_cases h4 : n.val - 16 - 16 - 16 - 16 < 16
  · rw [dif_pos h4]
    have hb : (b.val * 16 + (n.val - 16 - 16 - 16 - 16)) / 16 = b.val := by omega
    have hm : 64 + (b.val * 16 + (n.val - 16 - 16 - 16 - 16)) % 16 = n.val := by omega
    simp only [hb, hm]; exact key b n rfl rfl
  rw [dif_neg h4]
  by_cases h5 : n.val - 16 - 16 - 16 - 16 - 16 < 16
  · rw [dif_pos h5]
    have hb : (b.val * 16 + (n.val - 16 - 16 - 16 - 16 - 16)) / 16 = b.val := by omega
    have hm : 80 + (b.val * 16 + (n.val - 16 - 16 - 16 - 16 - 16)) % 16 = n.val := by omega
    simp only [hb, hm]; exact key b n rfl rfl
  rw [dif_neg h5]
  by_cases h6 : n.val - 16 - 16 - 16 - 16 - 16 - 16 < 16
  · rw [dif_pos h6]
    have hb : (b.val * 16 + (n.val - 16 - 16 - 16 - 16 - 16 - 16)) / 16 = b.val := by omega
    have hm : 96 + (b.val * 16 + (n.val - 16 - 16 - 16 - 16 - 16 - 16)) % 16 = n.val := by omega
    simp only [hb, hm]; exact key b n rfl rfl
  rw [dif_neg h6]
  have hm : 112 + (b.val * 16 + (n.val - 16 - 16 - 16 - 16 - 16 - 16 - 16)) % 16 = n.val := by omega
  simp only [hm]; exact key b n rfl rfl

/-! ## The blocks -/

section Blocks
variable (x0 : Vec Ideal S64x128 .f32) (x1 x2 : Vec Ideal S64x128x128 .f32) (x3 : Vec Ideal S64x128 .f32) (x4 x5 x6 : Vec Ideal S128x128 .f32) (x7 : Vec Ideal S1x128 .f32) (x8 x9 : Vec Ideal S128x512 .bf16) (x10 x11 : Vec Ideal S1x1x512 .f32)

/-- The one-hot entry of row `b` and slot `n`. -/
def boh (b : Fin 64) (n : Fin 128) : EReal := k0_pay14 (F := Ideal) (k0_pay76 x0 x1 x2 x3 x4 x5 x6 x7 x8 x9 x10 x11) (k0_pay77 x0 x1 x2 x3 x4 x5 x6 x7 x8 x9 x10 x11) (ix2 b n)
/-- The value row. -/
def bval (b : Fin 64) (d : Fin 128) : EReal := (∑ k : Fin 128, x0 (ix2 b k) * x6 (ix2 k d)) + x7 (ix2 0 d)
/-- The updated slots, as the kernel's arithmetic writes them. -/
def bslot (b : Fin 64) (n d : Fin 128) : EReal :=
  x1 (ix3 b n d) * (1 - boh x0 x1 x2 x3 x4 x5 x6 x7 x8 x9 x10 x11 b n) + boh x0 x1 x2 x3 x4 x5 x6 x7 x8 x9 x10 x11 b n * bval x0 x6 x7 b d
/-- The updated sums. -/
def bcum (b : Fin 64) (n d : Fin 128) : EReal :=
  (x2 (ix3 b n d) + x0 (ix2 b d)) * (1 - boh x0 x1 x2 x3 x4 x5 x6 x7 x8 x9 x10 x11 b n) + boh x0 x1 x2 x3 x4 x5 x6 x7 x8 x9 x10 x11 b n * x0 (ix2 b d)
/-- The updated ages. -/
def bdt (b : Fin 64) (n : Fin 128) : EReal := (x3 (ix2 b n) + 1) * (1 - boh x0 x1 x2 x3 x4 x5 x6 x7 x8 x9 x10 x11 b n)
/-- The gates' input part. -/
def bgate (n : Fin 128) (b : Fin 64) (g : Fin 512) : EReal :=
  (∑ d : Fin 128, bslot x0 x1 x2 x3 x4 x5 x6 x7 x8 x9 x10 x11 b n d * x8 (ix2 d g)) + (∑ d : Fin 128, bcum x0 x1 x2 x3 x4 x5 x6 x7 x8 x9 x10 x11 b n d * x9 (ix2 d g))
    + bdt x0 x1 x2 x3 x4 x5 x6 x7 x8 x9 x10 x11 b n * x10 (ix3 0 0 g) + x11 (ix3 0 0 g)
end Blocks

theorem out12_at (x0 : Vec Ideal S64x128 .f32) (x1 x2 : Vec Ideal S64x128x128 .f32) (x3 : Vec Ideal S64x128 .f32) (x4 x5 x6 : Vec Ideal S128x128 .f32) (x7 : Vec Ideal S1x128 .f32) (x8 x9 : Vec Ideal S128x512 .bf16) (x10 x11 : Vec Ideal S1x1x512 .f32) (y : S64x128x128.Idx) :
    (out0_12 (F := Ideal) x0 x1 x2 x3 x4 x5 x6 x7 x8 x9 x10 x11 y : EReal) = bslot x0 x1 x2 x3 x4 x5 x6 x7 x8 x9 x10 x11 (y 0) (y 1) (y 2) := by
  unfold out0_12
  refine View.canon_apply_of_pieces (Val := Elt Ideal) (e := .f32) (fun y : S64x128x128.Idx => bslot x0 x1 x2 x3 x4 x5 x6 x7 x8 x9 x10 x11 (y 0) (y 1) (y 2)) _ ?_ y (cover0_12 _ _ _ _ _ _ _ _ y)
  intro pc hpc
  fin_cases hpc
  · intro x
    change S64x16x128.Idx at x
    show _ = View.ld (Val := Elt Ideal) (S := S64x128x128) (e' := .f32) (fun y : S64x128x128.Idx => bslot x0 x1 x2 x3 x4 x5 x6 x7 x8 x9 x10 x11 (y 0) (y 1) (y 2)) r0_10 x
    idx_vars x
    pointwise [bslot, bslot, bcum, bdt, boh, bval, k0_pay1, k0_pay2, k0_pay3, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
  · intro x
    change S64x16x128.Idx at x
    show _ = View.ld (Val := Elt Ideal) (S := S64x128x128) (e' := .f32) (fun y : S64x128x128.Idx => bslot x0 x1 x2 x3 x4 x5 x6 x7 x8 x9 x10 x11 (y 0) (y 1) (y 2)) r0_9 x
    idx_vars x
    pointwise [bslot, bslot, bcum, bdt, boh, bval, k0_pay1, k0_pay2, k0_pay3, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
  · intro x
    change S64x16x128.Idx at x
    show _ = View.ld (Val := Elt Ideal) (S := S64x128x128) (e' := .f32) (fun y : S64x128x128.Idx => bslot x0 x1 x2 x3 x4 x5 x6 x7 x8 x9 x10 x11 (y 0) (y 1) (y 2)) r0_8 x
    idx_vars x
    pointwise [bslot, bslot, bcum, bdt, boh, bval, k0_pay1, k0_pay2, k0_pay3, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
  · intro x
    change S64x16x128.Idx at x
    show _ = View.ld (Val := Elt Ideal) (S := S64x128x128) (e' := .f32) (fun y : S64x128x128.Idx => bslot x0 x1 x2 x3 x4 x5 x6 x7 x8 x9 x10 x11 (y 0) (y 1) (y 2)) r0_7 x
    idx_vars x
    pointwise [bslot, bslot, bcum, bdt, boh, bval, k0_pay1, k0_pay2, k0_pay3, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
  · intro x
    change S64x16x128.Idx at x
    show _ = View.ld (Val := Elt Ideal) (S := S64x128x128) (e' := .f32) (fun y : S64x128x128.Idx => bslot x0 x1 x2 x3 x4 x5 x6 x7 x8 x9 x10 x11 (y 0) (y 1) (y 2)) r0_6 x
    idx_vars x
    pointwise [bslot, bslot, bcum, bdt, boh, bval, k0_pay1, k0_pay2, k0_pay3, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
  · intro x
    change S64x16x128.Idx at x
    show _ = View.ld (Val := Elt Ideal) (S := S64x128x128) (e' := .f32) (fun y : S64x128x128.Idx => bslot x0 x1 x2 x3 x4 x5 x6 x7 x8 x9 x10 x11 (y 0) (y 1) (y 2)) r0_5 x
    idx_vars x
    pointwise [bslot, bslot, bcum, bdt, boh, bval, k0_pay1, k0_pay2, k0_pay3, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
  · intro x
    change S64x16x128.Idx at x
    show _ = View.ld (Val := Elt Ideal) (S := S64x128x128) (e' := .f32) (fun y : S64x128x128.Idx => bslot x0 x1 x2 x3 x4 x5 x6 x7 x8 x9 x10 x11 (y 0) (y 1) (y 2)) r0_4 x
    idx_vars x
    pointwise [bslot, bslot, bcum, bdt, boh, bval, k0_pay1, k0_pay2, k0_pay3, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
  · intro x
    change S64x16x128.Idx at x
    show _ = View.ld (Val := Elt Ideal) (S := S64x128x128) (e' := .f32) (fun y : S64x128x128.Idx => bslot x0 x1 x2 x3 x4 x5 x6 x7 x8 x9 x10 x11 (y 0) (y 1) (y 2)) r0_3 x
    idx_vars x
    pointwise [bslot, bslot, bcum, bdt, boh, bval, k0_pay1, k0_pay2, k0_pay3, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]

theorem out13_at (x0 : Vec Ideal S64x128 .f32) (x1 x2 : Vec Ideal S64x128x128 .f32) (x3 : Vec Ideal S64x128 .f32) (x4 x5 x6 : Vec Ideal S128x128 .f32) (x7 : Vec Ideal S1x128 .f32) (x8 x9 : Vec Ideal S128x512 .bf16) (x10 x11 : Vec Ideal S1x1x512 .f32) (y : S64x128x128.Idx) :
    (out0_13 (F := Ideal) x0 x1 x2 x3 x4 x5 x6 x7 x8 x9 x10 x11 y : EReal) = bcum x0 x1 x2 x3 x4 x5 x6 x7 x8 x9 x10 x11 (y 0) (y 1) (y 2) := by
  unfold out0_13
  refine View.canon_apply_of_pieces (Val := Elt Ideal) (e := .f32) (fun y : S64x128x128.Idx => bcum x0 x1 x2 x3 x4 x5 x6 x7 x8 x9 x10 x11 (y 0) (y 1) (y 2)) _ ?_ y (cover0_13 _ _ _ _ _ _ _ _ y)
  intro pc hpc
  fin_cases hpc
  · intro x
    change S64x16x128.Idx at x
    show _ = View.ld (Val := Elt Ideal) (S := S64x128x128) (e' := .f32) (fun y : S64x128x128.Idx => bcum x0 x1 x2 x3 x4 x5 x6 x7 x8 x9 x10 x11 (y 0) (y 1) (y 2)) r0_10 x
    idx_vars x
    pointwise [bcum, bslot, bcum, bdt, boh, bval, k0_pay1, k0_pay2, k0_pay3, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
  · intro x
    change S64x16x128.Idx at x
    show _ = View.ld (Val := Elt Ideal) (S := S64x128x128) (e' := .f32) (fun y : S64x128x128.Idx => bcum x0 x1 x2 x3 x4 x5 x6 x7 x8 x9 x10 x11 (y 0) (y 1) (y 2)) r0_9 x
    idx_vars x
    pointwise [bcum, bslot, bcum, bdt, boh, bval, k0_pay1, k0_pay2, k0_pay3, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
  · intro x
    change S64x16x128.Idx at x
    show _ = View.ld (Val := Elt Ideal) (S := S64x128x128) (e' := .f32) (fun y : S64x128x128.Idx => bcum x0 x1 x2 x3 x4 x5 x6 x7 x8 x9 x10 x11 (y 0) (y 1) (y 2)) r0_8 x
    idx_vars x
    pointwise [bcum, bslot, bcum, bdt, boh, bval, k0_pay1, k0_pay2, k0_pay3, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
  · intro x
    change S64x16x128.Idx at x
    show _ = View.ld (Val := Elt Ideal) (S := S64x128x128) (e' := .f32) (fun y : S64x128x128.Idx => bcum x0 x1 x2 x3 x4 x5 x6 x7 x8 x9 x10 x11 (y 0) (y 1) (y 2)) r0_7 x
    idx_vars x
    pointwise [bcum, bslot, bcum, bdt, boh, bval, k0_pay1, k0_pay2, k0_pay3, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
  · intro x
    change S64x16x128.Idx at x
    show _ = View.ld (Val := Elt Ideal) (S := S64x128x128) (e' := .f32) (fun y : S64x128x128.Idx => bcum x0 x1 x2 x3 x4 x5 x6 x7 x8 x9 x10 x11 (y 0) (y 1) (y 2)) r0_6 x
    idx_vars x
    pointwise [bcum, bslot, bcum, bdt, boh, bval, k0_pay1, k0_pay2, k0_pay3, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
  · intro x
    change S64x16x128.Idx at x
    show _ = View.ld (Val := Elt Ideal) (S := S64x128x128) (e' := .f32) (fun y : S64x128x128.Idx => bcum x0 x1 x2 x3 x4 x5 x6 x7 x8 x9 x10 x11 (y 0) (y 1) (y 2)) r0_5 x
    idx_vars x
    pointwise [bcum, bslot, bcum, bdt, boh, bval, k0_pay1, k0_pay2, k0_pay3, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
  · intro x
    change S64x16x128.Idx at x
    show _ = View.ld (Val := Elt Ideal) (S := S64x128x128) (e' := .f32) (fun y : S64x128x128.Idx => bcum x0 x1 x2 x3 x4 x5 x6 x7 x8 x9 x10 x11 (y 0) (y 1) (y 2)) r0_4 x
    idx_vars x
    pointwise [bcum, bslot, bcum, bdt, boh, bval, k0_pay1, k0_pay2, k0_pay3, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
  · intro x
    change S64x16x128.Idx at x
    show _ = View.ld (Val := Elt Ideal) (S := S64x128x128) (e' := .f32) (fun y : S64x128x128.Idx => bcum x0 x1 x2 x3 x4 x5 x6 x7 x8 x9 x10 x11 (y 0) (y 1) (y 2)) r0_3 x
    idx_vars x
    pointwise [bcum, bslot, bcum, bdt, boh, bval, k0_pay1, k0_pay2, k0_pay3, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]

theorem out14_at (x0 : Vec Ideal S64x128 .f32) (x1 x2 : Vec Ideal S64x128x128 .f32) (x3 : Vec Ideal S64x128 .f32) (x4 x5 x6 : Vec Ideal S128x128 .f32) (x7 : Vec Ideal S1x128 .f32) (x8 x9 : Vec Ideal S128x512 .bf16) (x10 x11 : Vec Ideal S1x1x512 .f32) (y : S64x128.Idx) :
    (out0_14 (F := Ideal) x0 x1 x2 x3 x4 x5 x6 x7 x8 x9 x10 x11 y : EReal) = bdt x0 x1 x2 x3 x4 x5 x6 x7 x8 x9 x10 x11 (y 0) (y 1) := by
  unfold out0_14
  refine View.canon_apply_of_pieces (Val := Elt Ideal) (e := .f32) (fun y : S64x128.Idx => bdt x0 x1 x2 x3 x4 x5 x6 x7 x8 x9 x10 x11 (y 0) (y 1)) _ ?_ y (cover0_14 _ y)
  intro pc hpc
  fin_cases hpc
  · intro x
    change S64x128.Idx at x
    show _ = View.ld (Val := Elt Ideal) (S := S64x128) (e' := .f32) (fun y : S64x128.Idx => bdt x0 x1 x2 x3 x4 x5 x6 x7 x8 x9 x10 x11 (y 0) (y 1)) r0_0 x
    idx_vars x
    pointwise [bdt, bslot, bcum, bdt, boh, bval, k0_pay1, k0_pay2, k0_pay3, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]

theorem out15_at (x0 : Vec Ideal S64x128 .f32) (x1 x2 : Vec Ideal S64x128x128 .f32) (x3 : Vec Ideal S64x128 .f32) (x4 x5 x6 : Vec Ideal S128x128 .f32) (x7 : Vec Ideal S1x128 .f32) (x8 x9 : Vec Ideal S128x512 .bf16) (x10 x11 : Vec Ideal S1x1x512 .f32) (y : S128x64x512.Idx) :
    (out0_15 (F := Ideal) x0 x1 x2 x3 x4 x5 x6 x7 x8 x9 x10 x11 y : EReal) = bgate x0 x1 x2 x3 x4 x5 x6 x7 x8 x9 x10 x11 (y 0) (y 1) (y 2) := by
  unfold out0_15
  refine View.canon_apply_of_pieces (Val := Elt Ideal) (e := .bf16) (fun y : S128x64x512.Idx => bgate x0 x1 x2 x3 x4 x5 x6 x7 x8 x9 x10 x11 (y 0) (y 1) (y 2)) _ ?_ y (cover0_15 _ _ _ _ _ _ _ _ y)
  intro pc hpc
  fin_cases hpc
  · intro x
    change S16x64x512.Idx at x
    show _ = View.ld (Val := Elt Ideal) (S := S128x64x512) (e' := .bf16) (fun y : S128x64x512.Idx => bgate x0 x1 x2 x3 x4 x5 x6 x7 x8 x9 x10 x11 (y 0) (y 1) (y 2)) r0_20 x
    idx_vars x
    pointwise [bgate, bslot, bcum, bdt, boh, bval, k0_pay1, k0_pay2, k0_pay3, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
  · intro x
    change S16x64x512.Idx at x
    show _ = View.ld (Val := Elt Ideal) (S := S128x64x512) (e' := .bf16) (fun y : S128x64x512.Idx => bgate x0 x1 x2 x3 x4 x5 x6 x7 x8 x9 x10 x11 (y 0) (y 1) (y 2)) r0_19 x
    idx_vars x
    pointwise [bgate, bslot, bcum, bdt, boh, bval, k0_pay1, k0_pay2, k0_pay3, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
  · intro x
    change S16x64x512.Idx at x
    show _ = View.ld (Val := Elt Ideal) (S := S128x64x512) (e' := .bf16) (fun y : S128x64x512.Idx => bgate x0 x1 x2 x3 x4 x5 x6 x7 x8 x9 x10 x11 (y 0) (y 1) (y 2)) r0_18 x
    idx_vars x
    pointwise [bgate, bslot, bcum, bdt, boh, bval, k0_pay1, k0_pay2, k0_pay3, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
  · intro x
    change S16x64x512.Idx at x
    show _ = View.ld (Val := Elt Ideal) (S := S128x64x512) (e' := .bf16) (fun y : S128x64x512.Idx => bgate x0 x1 x2 x3 x4 x5 x6 x7 x8 x9 x10 x11 (y 0) (y 1) (y 2)) r0_17 x
    idx_vars x
    pointwise [bgate, bslot, bcum, bdt, boh, bval, k0_pay1, k0_pay2, k0_pay3, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
  · intro x
    change S16x64x512.Idx at x
    show _ = View.ld (Val := Elt Ideal) (S := S128x64x512) (e' := .bf16) (fun y : S128x64x512.Idx => bgate x0 x1 x2 x3 x4 x5 x6 x7 x8 x9 x10 x11 (y 0) (y 1) (y 2)) r0_16 x
    idx_vars x
    pointwise [bgate, bslot, bcum, bdt, boh, bval, k0_pay1, k0_pay2, k0_pay3, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
  · intro x
    change S16x64x512.Idx at x
    show _ = View.ld (Val := Elt Ideal) (S := S128x64x512) (e' := .bf16) (fun y : S128x64x512.Idx => bgate x0 x1 x2 x3 x4 x5 x6 x7 x8 x9 x10 x11 (y 0) (y 1) (y 2)) r0_15 x
    idx_vars x
    pointwise [bgate, bslot, bcum, bdt, boh, bval, k0_pay1, k0_pay2, k0_pay3, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
  · intro x
    change S16x64x512.Idx at x
    show _ = View.ld (Val := Elt Ideal) (S := S128x64x512) (e' := .bf16) (fun y : S128x64x512.Idx => bgate x0 x1 x2 x3 x4 x5 x6 x7 x8 x9 x10 x11 (y 0) (y 1) (y 2)) r0_14 x
    idx_vars x
    pointwise [bgate, bslot, bcum, bdt, boh, bval, k0_pay1, k0_pay2, k0_pay3, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
  · intro x
    change S16x64x512.Idx at x
    show _ = View.ld (Val := Elt Ideal) (S := S128x64x512) (e' := .bf16) (fun y : S128x64x512.Idx => bgate x0 x1 x2 x3 x4 x5 x6 x7 x8 x9 x10 x11 (y 0) (y 1) (y 2)) r0_13 x
    idx_vars x
    pointwise [bgate, bslot, bcum, bdt, boh, bval, k0_pay1, k0_pay2, k0_pay3, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]

end Cert.KernelIdeal.Whole

end
-- ==== Proof.KMem.lean ====
/- Region 0's output arrays: the slots, sums, ages and gates after the write, at every index. -/
module

public import proofs.«01_k».proof.Proof.KIn
public import proofs.«01_k».proof.Proof.Blocks
public import Idealize.ShloMosaic.Lib.Pipeline.ValueKit

@[expose] public section

set_option maxRecDepth 16384

noncomputable section

namespace Cert.KernelIdeal.Whole

open Cert.KernelIdeal Cert.KernelIdeal.Gen Cert.Cell
open Idealize.ShloMosaic Idealize.ShloMosaic.TcCoe Idealize.ShloMosaic.StableHlo

/-- Row `r` of block `t`. -/
def row (t : ℕ) (ht : t < 16) (r : Fin 64) : Fin 1024 := ⟨t * 64 + r.val, by omega⟩

theorem one_sub_one : (1 : EReal) - 1 = 0 := EReal.sub_self (by decide) (by decide)

/-! ## One block, in terms of the arguments -/

section Block
variable (x0 : Vec Ideal S64x128 .f32) (x1 x2 : Vec Ideal S64x128x128 .f32) (x3 : Vec Ideal S64x128 .f32) (x4 x5 x6 : Vec Ideal S128x128 .f32)
  (x7 : Vec Ideal S1x128 .f32) (x8 x9 : Vec Ideal S128x512 .bf16) (x10 x11 : Vec Ideal S1x1x512 .f32)

/-- The block's inputs are the arguments at the block's rows and the host's rearrangements of the weights. -/
structure Holds (I : In) (t : ℕ) (ht : t < 16) : Prop where
  h0 : ∀ r d, (x0 (ix2 r d) : EReal) = I.x (row t ht r) d
  h1 : ∀ r n d, (x1 (ix3 r n d) : EReal) = I.S (row t ht r) n d
  h2 : ∀ r n d, (x2 (ix3 r n d) : EReal) = I.C (row t ht r) n d
  h3 : ∀ r n, (x3 (ix2 r n) : EReal) = I.dt (row t ht r) n
  h4 : ∀ a b, (x4 (ix2 a b) : EReal) = I.wq b a
  h5 : ∀ a b, (x5 (ix2 a b) : EReal) = I.wk b a
  h6 : ∀ a b, (x6 (ix2 a b) : EReal) = I.wv b a
  h7 : ∀ d, (x7 (ix2 0 d) : EReal) = I.bv d
  h8 : ∀ (a : Fin 128) g, (x8 (ix2 a g) : EReal) = I.wi g ⟨a.val, by omega⟩
  h9 : ∀ (a : Fin 128) g, (x9 (ix2 a g) : EReal) = I.wi g ⟨128 + a.val, by omega⟩
  h10 : ∀ g, (x10 (ix3 0 0 g) : EReal) = I.wi g ⟨256, by omega⟩
  h11 : ∀ g, (x11 (ix3 0 0 g) : EReal) = I.bi g + I.bh g

variable {x0 x1 x2 x3 x4 x5 x6 x7 x8 x9 x10 x11} {I : In} {t : ℕ} {ht : t < 16} (H : Holds x0 x1 x2 x3 x4 x5 x6 x7 x8 x9 x10 x11 I t ht)
include H

theorem boh_eq (r : Fin 64) (n : Fin 128) : boh x0 x1 x2 x3 x4 x5 x6 x7 x8 x9 x10 x11 r n = if n = I.pick (row t ht r) then 1 else 0 := by
  have hs : (fun n => (k0_pay76 (F := Ideal) x0 x1 x2 x3 x4 x5 x6 x7 x8 x9 x10 x11 (ix2 r n) : EReal)) = I.sim (row t ht r) := by
    funext n
    rw [sims_at]
    unfold bsim In.sim
    simp only [H.h0, H.h1, H.h4, H.h5]
  unfold boh k0_pay77
  rw [oh_at]
  unfold In.pick
  rw [← hs]

theorem bval_eq (r : Fin 64) (d : Fin 128) : bval x0 x6 x7 r d = I.val (row t ht r) d := by
  unfold bval In.val
  simp only [H.h0, H.h6, H.h7]

theorem bslot_eq (r : Fin 64) (n d : Fin 128) : bslot x0 x1 x2 x3 x4 x5 x6 x7 x8 x9 x10 x11 r n d = I.slot (row t ht r) n d := by
  unfold bslot In.slot
  rw [boh_eq H, bval_eq H, H.h1]
  split_ifs <;> simp [one_sub_one]

theorem bcum_eq (r : Fin 64) (n d : Fin 128) : bcum x0 x1 x2 x3 x4 x5 x6 x7 x8 x9 x10 x11 r n d = I.cum (row t ht r) n d := by
  unfold bcum In.cum
  rw [boh_eq H, H.h2, H.h0]
  split_ifs <;> simp [one_sub_one]

theorem bdt_eq (r : Fin 64) (n : Fin 128) : bdt x0 x1 x2 x3 x4 x5 x6 x7 x8 x9 x10 x11 r n = I.age (row t ht r) n := by
  unfold bdt In.age
  rw [boh_eq H, H.h3]
  split_ifs <;> simp [one_sub_one]

theorem bgate_eq (n : Fin 128) (r : Fin 64) (g : Fin 512) : bgate x0 x1 x2 x3 x4 x5 x6 x7 x8 x9 x10 x11 n r g = I.gate n (row t ht r) g := by
  unfold bgate In.gate
  simp only [bslot_eq H, bcum_eq H, bdt_eq H, H.h8, H.h9, H.h10, H.h11]
end Block

/-! ## The blocks of region 0 hold the arguments -/

variable (m : (ℓ : Loc nD τ sig) → Buf (Elt Ideal) ℓ) (ρ : Dev nD → PrngReg) (c : Dev nD)

theorem idx0_0 : ∀ t : Fin cfg0.N, win0_0.index t = ![t.val, 0] :=
  (by decide +kernel : ∀ t : Fin grid0.N, win0_0.index t = ![t.val, 0])
theorem idx0_1 : ∀ t : Fin cfg0.N, win0_1.index t = ![t.val, 0, 0] :=
  (by decide +kernel : ∀ t : Fin grid0.N, win0_1.index t = ![t.val, 0, 0])
theorem idx0_2 : ∀ t : Fin cfg0.N, win0_2.index t = ![t.val, 0, 0] :=
  (by decide +kernel : ∀ t : Fin grid0.N, win0_2.index t = ![t.val, 0, 0])
theorem idx0_3 : ∀ t : Fin cfg0.N, win0_3.index t = ![t.val, 0] :=
  (by decide +kernel : ∀ t : Fin grid0.N, win0_3.index t = ![t.val, 0])
theorem idx0_4 : ∀ t : Fin cfg0.N, win0_4.index t = ![0, 0] :=
  (by decide +kernel : ∀ t : Fin grid0.N, win0_4.index t = ![0, 0])
theorem idx0_5 : ∀ t : Fin cfg0.N, win0_5.index t = ![0, 0] :=
  (by decide +kernel : ∀ t : Fin grid0.N, win0_5.index t = ![0, 0])
theorem idx0_6 : ∀ t : Fin cfg0.N, win0_6.index t = ![0, 0] :=
  (by decide +kernel : ∀ t : Fin grid0.N, win0_6.index t = ![0, 0])
theorem idx0_7 : ∀ t : Fin cfg0.N, win0_7.index t = ![0, 0] :=
  (by decide +kernel : ∀ t : Fin grid0.N, win0_7.index t = ![0, 0])
theorem idx0_8 : ∀ t : Fin cfg0.N, win0_8.index t = ![0, 0] :=
  (by decide +kernel : ∀ t : Fin grid0.N, win0_8.index t = ![0, 0])
theorem idx0_9 : ∀ t : Fin cfg0.N, win0_9.index t = ![0, 0] :=
  (by decide +kernel : ∀ t : Fin grid0.N, win0_9.index t = ![0, 0])
theorem idx0_10 : ∀ t : Fin cfg0.N, win0_10.index t = ![0, 0, 0] :=
  (by decide +kernel : ∀ t : Fin grid0.N, win0_10.index t = ![0, 0, 0])
theorem idx0_11 : ∀ t : Fin cfg0.N, win0_11.index t = ![0, 0, 0] :=
  (by decide +kernel : ∀ t : Fin grid0.N, win0_11.index t = ![0, 0, 0])
theorem idx0_12 : ∀ t : Fin cfg0.N, win0_12.index t = ![t.val, 0, 0] :=
  (by decide +kernel : ∀ t : Fin grid0.N, win0_12.index t = ![t.val, 0, 0])
theorem idx0_13 : ∀ t : Fin cfg0.N, win0_13.index t = ![t.val, 0, 0] :=
  (by decide +kernel : ∀ t : Fin grid0.N, win0_13.index t = ![t.val, 0, 0])
theorem idx0_14 : ∀ t : Fin cfg0.N, win0_14.index t = ![t.val, 0] :=
  (by decide +kernel : ∀ t : Fin grid0.N, win0_14.index t = ![t.val, 0])
theorem idx0_15 : ∀ t : Fin cfg0.N, win0_15.index t = ![0, t.val, 0] :=
  (by decide +kernel : ∀ t : Fin grid0.N, win0_15.index t = ![0, t.val, 0])

theorem lt16 (t : Fin cfg0.N) : t.val < 16 := Nat.lt_of_lt_of_eq t.isLt N_0

theorem blk0_0 (t : Fin cfg0.N) (r : Fin 64) (d : Fin 128) : ((iblk0 (V1 m ρ) c 0 t : Vec Ideal S64x128 .f32) (ix2 r d) : EReal) = (kIn m c).x (row t.val (lt16 t) r) d := by
  refine Eq.trans (b := W1 m ρ c (Proc.devRef .tc main_arg0) (ix2 (row t.val (lt16 t) r) d)) ?_ (congrFun (W1_args m ρ c main_arg0 (by decide)) _)
  unfold row
  blk_ext [iblk0, idx0_0 t]

theorem blk0_1 (t : Fin cfg0.N) (r : Fin 64) (n d : Fin 128) : ((iblk0 (V1 m ρ) c 1 t : Vec Ideal S64x128x128 .f32) (ix3 r n d) : EReal) = (kIn m c).S (row t.val (lt16 t) r) n d := by
  refine Eq.trans (b := W1 m ρ c (Proc.devRef .tc main_arg4) (ix3 (row t.val (lt16 t) r) n d)) ?_ (congrFun (W1_args m ρ c main_arg4 (by decide)) _)
  unfold row
  blk_ext [iblk0, idx0_1 t]

theorem blk0_2 (t : Fin cfg0.N) (r : Fin 64) (n d : Fin 128) : ((iblk0 (V1 m ρ) c 2 t : Vec Ideal S64x128x128 .f32) (ix3 r n d) : EReal) = (kIn m c).C (row t.val (lt16 t) r) n d := by
  refine Eq.trans (b := W1 m ρ c (Proc.devRef .tc main_arg5) (ix3 (row t.val (lt16 t) r) n d)) ?_ (congrFun (W1_args m ρ c main_arg5 (by decide)) _)
  unfold row
  blk_ext [iblk0, idx0_2 t]

theorem blk0_3 (t : Fin cfg0.N) (r : Fin 64) (d : Fin 128) : ((iblk0 (V1 m ρ) c 3 t : Vec Ideal S64x128 .f32) (ix2 r d) : EReal) = (kIn m c).dt (row t.val (lt16 t) r) d := by
  refine Eq.trans (b := W1 m ρ c (Proc.devRef .tc main_arg6) (ix2 (row t.val (lt16 t) r) d)) ?_ (congrFun (W1_args m ρ c main_arg6 (by decide)) _)
  unfold row
  blk_ext [iblk0, idx0_3 t]

theorem blk0_4 (t : Fin cfg0.N) (a b : Fin 128) : ((iblk0 (V1 m ρ) c 4 t : Vec Ideal S128x128 .f32) (ix2 a b) : EReal) = (kIn m c).wq b a := by
  refine Eq.trans ?_ (w_wq m ρ c a b)
  blk_ext [iblk0, idx0_4 t]

theorem blk0_5 (t : Fin cfg0.N) (a b : Fin 128) : ((iblk0 (V1 m ρ) c 5 t : Vec Ideal S128x128 .f32) (ix2 a b) : EReal) = (kIn m c).wk b a := by
  refine Eq.trans ?_ (w_wk m ρ c a b)
  blk_ext [iblk0, idx0_5 t]

theorem blk0_6 (t : Fin cfg0.N) (a b : Fin 128) : ((iblk0 (V1 m ρ) c 6 t : Vec Ideal S128x128 .f32) (ix2 a b) : EReal) = (kIn m c).wv b a := by
  refine Eq.trans ?_ (w_wv m ρ c a b)
  blk_ext [iblk0, idx0_6 t]

theorem blk0_7 (t : Fin cfg0.N) (d : Fin 128) : ((iblk0 (V1 m ρ) c 7 t : Vec Ideal S1x128 .f32) (ix2 0 d) : EReal) = (kIn m c).bv d := by
  refine Eq.trans ?_ (w_bv m ρ c d)
  blk_ext [iblk0, idx0_7 t]

theorem blk0_8 (t : Fin cfg0.N) (a : Fin 128) (g : Fin 512) : ((iblk0 (V1 m ρ) c 8 t : Vec Ideal S128x512 .bf16) (ix2 a g) : EReal) = (kIn m c).wi g ⟨a.val, by omega⟩ := by
  refine Eq.trans ?_ (w_wa m ρ c a g)
  blk_ext [iblk0, idx0_8 t]

theorem blk0_9 (t : Fin cfg0.N) (a : Fin 128) (g : Fin 512) : ((iblk0 (V1 m ρ) c 9 t : Vec Ideal S128x512 .bf16) (ix2 a g) : EReal) = (kIn m c).wi g ⟨128 + a.val, by omega⟩ := by
  refine Eq.trans ?_ (w_wb m ρ c a g)
  blk_ext [iblk0, idx0_9 t]

theorem blk0_10 (t : Fin cfg0.N) (g : Fin 512) : ((iblk0 (V1 m ρ) c 10 t : Vec Ideal S1x1x512 .f32) (ix3 0 0 g) : EReal) = (kIn m c).wi g ⟨256, by omega⟩ := by
  refine Eq.trans ?_ (w_wd m ρ c g)
  blk_ext [iblk0, idx0_10 t]

theorem blk0_11 (t : Fin cfg0.N) (g : Fin 512) : ((iblk0 (V1 m ρ) c 11 t : Vec Ideal S1x1x512 .f32) (ix3 0 0 g) : EReal) = (kIn m c).bi g + (kIn m c).bh g := by
  refine Eq.trans ?_ (w_bb m ρ c g)
  blk_ext [iblk0, idx0_11 t]

theorem holds (t : Fin cfg0.N) : Holds (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (kIn m c) t.val (lt16 t) :=
  ⟨blk0_0 m ρ c t, blk0_1 m ρ c t, blk0_2 m ρ c t, blk0_3 m ρ c t, blk0_4 m ρ c t, blk0_5 m ρ c t, blk0_6 m ρ c t, blk0_7 m ρ c t, blk0_8 m ρ c t, blk0_9 m ρ c t, blk0_10 m ρ c t, blk0_11 m ρ c t⟩

/-! ## The arrays region 0 leaves -/

theorem arr0_12 : (dat0 (V1 m ρ) c).arrAt 12 cfg0.N = fun i : S1024x128x128.Idx => (kIn m c).slot (i 0) (i 1) (i 2) := by
  refine (dat0 (V1 m ρ) c).arrAt_eq_of_covers 12 _ (by decide +kernel) fun t hf y => ?_
  blk_simp
  rw [after0_12]
  refine (out12_at _ _ _ _ _ _ _ _ _ _ _ _ _).trans ?_
  have e0 : (row t.val (lt16 t) (y 0) : Fin 1024) = ((win0_12.blk t).view.emb y 0 : Fin 1024) := Fin.ext (by
    show t.val * 64 + (y 0).val = (((win0_12.blk t).view.emb y) 0).val
    blk_simp [idx0_12 t])
  have e1 : (y 1 : Fin 128) = ((win0_12.blk t).view.emb y 1 : Fin 128) := Fin.ext (by
    show (y 1).val = (((win0_12.blk t).view.emb y) 1).val
    blk_simp [idx0_12 t])
  have e2 : (y 2 : Fin 128) = ((win0_12.blk t).view.emb y 2 : Fin 128) := Fin.ext (by
    show (y 2).val = (((win0_12.blk t).view.emb y) 2).val
    blk_simp [idx0_12 t])
  refine (bslot_eq (holds m ρ c t) _ _ _).trans ?_
  exact congr (congr (congrArg (kIn m c).slot e0) e1) e2

theorem arr0_13 : (dat0 (V1 m ρ) c).arrAt 13 cfg0.N = fun i : S1024x128x128.Idx => (kIn m c).cum (i 0) (i 1) (i 2) := by
  refine (dat0 (V1 m ρ) c).arrAt_eq_of_covers 13 _ (by decide +kernel) fun t hf y => ?_
  blk_simp
  rw [after0_13]
  refine (out13_at _ _ _ _ _ _ _ _ _ _ _ _ _).trans ?_
  have e0 : (row t.val (lt16 t) (y 0) : Fin 1024) = ((win0_13.blk t).view.emb y 0 : Fin 1024) := Fin.ext (by
    show t.val * 64 + (y 0).val = (((win0_13.blk t).view.emb y) 0).val
    blk_simp [idx0_13 t])
  have e1 : (y 1 : Fin 128) = ((win0_13.blk t).view.emb y 1 : Fin 128) := Fin.ext (by
    show (y 1).val = (((win0_13.blk t).view.emb y) 1).val
    blk_simp [idx0_13 t])
  have e2 : (y 2 : Fin 128) = ((win0_13.blk t).view.emb y 2 : Fin 128) := Fin.ext (by
    show (y 2).val = (((win0_13.blk t).view.emb y) 2).val
    blk_simp [idx0_13 t])
  refine (bcum_eq (holds m ρ c t) _ _ _).trans ?_
  exact congr (congr (congrArg (kIn m c).cum e0) e1) e2

theorem arr0_14 : (dat0 (V1 m ρ) c).arrAt 14 cfg0.N = fun i : S1024x128.Idx => (kIn m c).age (i 0) (i 1) := by
  refine (dat0 (V1 m ρ) c).arrAt_eq_of_covers 14 _ (by decide +kernel) fun t hf y => ?_
  blk_simp
  rw [after0_14]
  refine (out14_at _ _ _ _ _ _ _ _ _ _ _ _ _).trans ?_
  have e0 : (row t.val (lt16 t) (y 0) : Fin 1024) = ((win0_14.blk t).view.emb y 0 : Fin 1024) := Fin.ext (by
    show t.val * 64 + (y 0).val = (((win0_14.blk t).view.emb y) 0).val
    blk_simp [idx0_14 t])
  have e1 : (y 1 : Fin 128) = ((win0_14.blk t).view.emb y 1 : Fin 128) := Fin.ext (by
    show (y 1).val = (((win0_14.blk t).view.emb y) 1).val
    blk_simp [idx0_14 t])
  refine (bdt_eq (holds m ρ c t) _ _).trans ?_
  exact congr (congrArg (kIn m c).age e0) e1

theorem arr0_15 : (dat0 (V1 m ρ) c).arrAt 15 cfg0.N = fun i : S128x1024x512.Idx => (kIn m c).gate (i 0) (i 1) (i 2) := by
  refine (dat0 (V1 m ρ) c).arrAt_eq_of_covers 15 _ (by decide +kernel) fun t hf y => ?_
  blk_simp
  rw [after0_15]
  refine (out15_at _ _ _ _ _ _ _ _ _ _ _ _ _).trans ?_
  have e0 : (y 0 : Fin 128) = ((win0_15.blk t).view.emb y 0 : Fin 128) := Fin.ext (by
    show (y 0).val = (((win0_15.blk t).view.emb y) 0).val
    blk_simp [idx0_15 t])
  have e1 : (row t.val (lt16 t) (y 1) : Fin 1024) = ((win0_15.blk t).view.emb y 1 : Fin 1024) := Fin.ext (by
    show t.val * 64 + (y 1).val = (((win0_15.blk t).view.emb y) 1).val
    blk_simp [idx0_15 t])
  have e2 : (y 2 : Fin 512) = ((win0_15.blk t).view.emb y 2 : Fin 512) := Fin.ext (by
    show (y 2).val = (((win0_15.blk t).view.emb y) 2).val
    blk_simp [idx0_15 t])
  refine (bgate_eq (holds m ρ c t) _ _ _).trans ?_
  exact congr (congr (congrArg (kIn m c).gate e0) e1) e2

end Cert.KernelIdeal.Whole
-- ==== Proof.KStep.lean ====
/- Region 1's arithmetic at an index: one step of the cell, and the outer cell of the last point. -/
module

public import proofs.«01_k».proof.Proof.Spec
public import proofs.«01_k».proof.Proof.Scan
public import Idealize.ShloMosaic.Lib.Pointwise

@[expose] public section

set_option maxRecDepth 16384

noncomputable section

namespace Cert.KernelIdeal.Whole

open Cert.KernelIdeal Cert.KernelIdeal.Gen Cert.Cell
open Idealize.ShloMosaic Idealize.ShloMosaic.TcCoe Idealize.ShloMosaic.StableHlo

section Step
variable (g : Vec Ideal S1x1024x512 .bf16) (w : Vec Ideal S128x512 .bf16) (h s : Vec Ideal S1024x128 .f32)

/-- The step's gates. -/
def stepG (b : Fin 1024) (k : Fin 512) : EReal := g (ix3 0 b k) + ∑ x : Fin 128, h (ix2 b x) * w (ix2 x k)

theorem stepC_at (b : Fin 1024) (d : Fin 128) : (stepC (F := Ideal) g w h s (ix2 b d) : EReal) = cellC (stepG g w h b) (fun d => s (ix2 b d)) d := by
  unfold cellC
  simp only [← sg_tanh]
  unfold stepC stepG
  pointwise [k1_pay4, k1_pay1, k1_pay14, k1_pay15, k1_pay16, k1_pay13]

theorem stepH_at (b : Fin 1024) (d : Fin 128) : (stepH (F := Ideal) g w h s (ix2 b d) : EReal) = cellH (stepG g w h b) (fun d => s (ix2 b d)) d := by
  unfold cellH cellC
  simp only [← sg_tanh]
  unfold stepH stepG
  pointwise [k1_pay3, k1_pay2, k1_pay4, k1_pay1, k1_pay14, k1_pay15, k1_pay16, k1_pay17, k1_pay13]

theorem lastM_at (b : Fin 1024) (d : Fin 128) : (lastM (F := Ideal) g w h s (ix2 b d) : EReal) = cellH (stepG g w h b) (fun d => s (ix2 b d)) d := by
  unfold cellH cellC
  simp only [← sg_tanh]
  unfold lastM stepG k1_pay2
  pointwise [k1_pay1, k1_pay14, k1_pay15, k1_pay16, k1_pay17, k1_pay13]
end Step

section Outer
variable (hm x h cc : Vec Ideal S1024x128 .f32) (wx wm : Vec Ideal S128x512 .bf16) (bb : Vec Ideal S1x512 .f32) (wh : Vec Ideal S128x512 .bf16)

/-- The outer cell's gates. -/
def outerG (b : Fin 1024) (k : Fin 512) : EReal :=
  ((∑ d : Fin 128, x (ix2 b d) * wx (ix2 d k)) + (∑ d : Fin 128, hm (ix2 b d) * wm (ix2 d k)) + bb (ix2 0 k)) + ∑ d : Fin 128, h (ix2 b d) * wh (ix2 d k)

theorem outerC_at (b : Fin 1024) (d : Fin 128) : (outerC (F := Ideal) hm x h cc wx wm bb wh (ix2 b d) : EReal) = cellC (outerG hm x h wx wm bb wh b) (fun d => cc (ix2 b d)) d := by
  unfold cellC
  simp only [← sg_tanh]
  unfold outerC outerG
  pointwise [k1_pay6, k1_pay5, k1_pay7, k1_pay8, k1_pay9, k1_pay10]

theorem outerH_at (b : Fin 1024) (d : Fin 128) : (outerH (F := Ideal) hm x h cc wx wm bb wh (ix2 b d) : EReal) = cellH (outerG hm x h wx wm bb wh b) (fun d => cc (ix2 b d)) d := by
  unfold cellH cellC
  simp only [← sg_tanh]
  unfold outerH outerG
  pointwise [k1_pay6, k1_pay5, k1_pay7, k1_pay8, k1_pay9, k1_pay10]
end Outer

end Cert.KernelIdeal.Whole
-- ==== Proof.KScan.lean ====
/- Region 1's output arrays: the outer cell's states and the memory's answer, at every index. -/
module

public import proofs.«01_k».proof.Proof.KMem
public import proofs.«01_k».proof.Proof.KStep

@[expose] public section

set_option maxRecDepth 16384

noncomputable section

namespace Cert.KernelIdeal.Whole

open Cert.KernelIdeal Cert.KernelIdeal.Gen Cert.Cell
open Idealize.ShloMosaic Idealize.ShloMosaic.TcCoe Idealize.ShloMosaic.StableHlo

variable (m : (ℓ : Loc nD τ sig) → Buf (Elt Ideal) ℓ) (ρ : Dev nD → PrngReg) (c : Dev nD)

/-! ## The blocks of region 1 -/

theorem idx1_0 : ∀ t : Fin cfg1.N, win1_0.index t = ![t.val, 0, 0] :=
  (by decide +kernel : ∀ t : Fin grid1.N, win1_0.index t = ![t.val, 0, 0])
theorem idx1_1 : ∀ t : Fin cfg1.N, win1_1.index t = ![0, 0] :=
  (by decide +kernel : ∀ t : Fin grid1.N, win1_1.index t = ![0, 0])
theorem idx1_2 : ∀ t : Fin cfg1.N, win1_2.index t = ![0, 0] :=
  (by decide +kernel : ∀ t : Fin grid1.N, win1_2.index t = ![0, 0])
theorem idx1_3 : ∀ t : Fin cfg1.N, win1_3.index t = ![0, 0] :=
  (by decide +kernel : ∀ t : Fin grid1.N, win1_3.index t = ![0, 0])
theorem idx1_4 : ∀ t : Fin cfg1.N, win1_4.index t = ![0, 0] :=
  (by decide +kernel : ∀ t : Fin grid1.N, win1_4.index t = ![0, 0])
theorem idx1_5 : ∀ t : Fin cfg1.N, win1_5.index t = ![0, 0] :=
  (by decide +kernel : ∀ t : Fin grid1.N, win1_5.index t = ![0, 0])
theorem idx1_6 : ∀ t : Fin cfg1.N, win1_6.index t = ![0, 0] :=
  (by decide +kernel : ∀ t : Fin grid1.N, win1_6.index t = ![0, 0])
theorem idx1_7 : ∀ t : Fin cfg1.N, win1_7.index t = ![0, 0] :=
  (by decide +kernel : ∀ t : Fin grid1.N, win1_7.index t = ![0, 0])
theorem idx1_8 : ∀ t : Fin cfg1.N, win1_8.index t = ![0, 0] :=
  (by decide +kernel : ∀ t : Fin grid1.N, win1_8.index t = ![0, 0])
theorem idx1_9 : ∀ t : Fin cfg1.N, win1_9.index t = ![0, 0] :=
  (by decide +kernel : ∀ t : Fin grid1.N, win1_9.index t = ![0, 0])
theorem idx1_10 : ∀ t : Fin cfg1.N, win1_10.index t = ![0, 0] :=
  (by decide +kernel : ∀ t : Fin grid1.N, win1_10.index t = ![0, 0])
theorem idx1_11 : ∀ t : Fin cfg1.N, win1_11.index t = ![0, 0] :=
  (by decide +kernel : ∀ t : Fin grid1.N, win1_11.index t = ![0, 0])

theorem lt128 (t : Fin cfg1.N) : t.val < 128 := Nat.lt_of_lt_of_eq t.isLt N_1

theorem v2_gates : (W2 m ρ c (Proc.devRef .tc (Pipeline.arrRef spec1 0)) : Vec Ideal S128x1024x512 .bf16) = fun i : S128x1024x512.Idx => (kIn m c).gate (i 0) (i 1) (i 2) :=
  (W2_arr m ρ c 15).trans (arr0_15 m ρ c)

theorem blk1_0 (t : Fin cfg1.N) (b : Fin 1024) (g : Fin 512) : ((iblk1 (V2 m ρ) c 0 t : Vec Ideal S1x1024x512 .bf16) (ix3 0 b g) : EReal) = (kIn m c).gate ⟨t.val, lt128 t⟩ b g := by
  refine Eq.trans (b := (W2 m ρ c (Proc.devRef .tc (Pipeline.arrRef spec1 0)) : Vec Ideal S128x1024x512 .bf16) (ix3 ⟨t.val, lt128 t⟩ b g)) ?_ (congrFun (v2_gates m ρ c) _)
  blk_ext [iblk1, idx1_0 t]

theorem blk1_1 (t : Fin cfg1.N) (b : Fin 1024) (d : Fin 128) : ((iblk1 (V2 m ρ) c 1 t : Vec Ideal S1024x128 .f32) (ix2 b d) : EReal) = (kIn m c).x b d := by
  refine Eq.trans (b := W2 m ρ c (Proc.devRef .tc main_arg0) (ix2 b d)) ?_ (congrFun (W2_args m ρ c main_arg0 (by decide)) _)
  blk_ext [iblk1, idx1_1 t]

theorem blk1_2 (t : Fin cfg1.N) (b : Fin 1024) (d : Fin 128) : ((iblk1 (V2 m ρ) c 2 t : Vec Ideal S1024x128 .f32) (ix2 b d) : EReal) = (kIn m c).h0 b d := by
  refine Eq.trans (b := W2 m ρ c (Proc.devRef .tc main_arg1) (ix2 b d)) ?_ (congrFun (W2_args m ρ c main_arg1 (by decide)) _)
  blk_ext [iblk1, idx1_2 t]

theorem blk1_3 (t : Fin cfg1.N) (b : Fin 1024) (d : Fin 128) : ((iblk1 (V2 m ρ) c 3 t : Vec Ideal S1024x128 .f32) (ix2 b d) : EReal) = (kIn m c).c0 b d := by
  refine Eq.trans (b := W2 m ρ c (Proc.devRef .tc main_arg2) (ix2 b d)) ?_ (congrFun (W2_args m ρ c main_arg2 (by decide)) _)
  blk_ext [iblk1, idx1_3 t]

theorem blk1_4 (t : Fin cfg1.N) (a : Fin 128) (g : Fin 512) : ((iblk1 (V2 m ρ) c 4 t : Vec Ideal S128x512 .bf16) (ix2 a g) : EReal) = (kIn m c).wh g a := by
  refine Eq.trans (b := W2 m ρ c (Proc.devRef .tc main_call0_v15) (ix2 a g)) ?_ ((congrFun (W2_of m ρ c main_call0_v15 (by decide +kernel)) _).trans (w_wh m ρ c a g))
  blk_ext [iblk1, idx1_4 t]

theorem blk1_5 (t : Fin cfg1.N) (a : Fin 128) (g : Fin 512) : ((iblk1 (V2 m ρ) c 5 t : Vec Ideal S128x512 .bf16) (ix2 a g) : EReal) = (kIn m c).oi g ⟨a.val, by omega⟩ := by
  refine Eq.trans (b := W2 m ρ c (Proc.devRef .tc main_call0_v18) (ix2 a g)) ?_ ((congrFun (W2_of m ρ c main_call0_v18 (by decide +kernel)) _).trans (w_ox m ρ c a g))
  blk_ext [iblk1, idx1_5 t]

theorem blk1_6 (t : Fin cfg1.N) (a : Fin 128) (g : Fin 512) : ((iblk1 (V2 m ρ) c 6 t : Vec Ideal S128x512 .bf16) (ix2 a g) : EReal) = (kIn m c).oi g ⟨128 + a.val, by omega⟩ := by
  refine Eq.trans (b := W2 m ρ c (Proc.devRef .tc main_call0_v21) (ix2 a g)) ?_ ((congrFun (W2_of m ρ c main_call0_v21 (by decide +kernel)) _).trans (w_om m ρ c a g))
  blk_ext [iblk1, idx1_6 t]

theorem blk1_8 (t : Fin cfg1.N) (a : Fin 128) (g : Fin 512) : ((iblk1 (V2 m ρ) c 8 t : Vec Ideal S128x512 .bf16) (ix2 a g) : EReal) = (kIn m c).oh g a := by
  refine Eq.trans (b := W2 m ρ c (Proc.devRef .tc main_call0_v24) (ix2 a g)) ?_ ((congrFun (W2_of m ρ c main_call0_v24 (by decide +kernel)) _).trans (w_oh m ρ c a g))
  blk_ext [iblk1, idx1_8 t]

theorem blk1_7 (t : Fin cfg1.N) (g : Fin 512) : ((iblk1 (V2 m ρ) c 7 t : Vec Ideal S1x512 .f32) (ix2 0 g) : EReal) = (kIn m c).ob g := by
  refine Eq.trans (b := W2 m ρ c (Proc.devRef .tc main_call0_v22) (ix2 0 g)) ?_ ((congrFun (W2_of m ρ c main_call0_v22 (by decide +kernel)) _).trans (w_ob m ρ c g))
  blk_ext [iblk1, idx1_7 t]

/-! ## The state before each point -/

theorem pay11_at (b : Fin 1024) (d : Fin 128) : (k1_pay11 (F := Ideal) (ix2 b d) : EReal) = 0 := by pointwise [k1_pay11]
theorem pay12_at (b : Fin 1024) (d : Fin 128) : (k1_pay12 (F := Ideal) (ix2 b d) : EReal) = 0 := by pointwise [k1_pay12]

/-- The gates of point `t` at a state that is known. -/
theorem gates_eq (t : Fin cfg1.N) (b : Fin 1024) (h : Vec Ideal S1024x128 .f32) (hs : Fin 128 → EReal) (e : ∀ d, (h (ix2 b d) : EReal) = hs d) :
    stepG (iblk1 (V2 m ρ) c 0 t) (iblk1 (V2 m ρ) c 4 t) h b = (kIn m c).gates ⟨t.val, lt128 t⟩ b hs := by
  funext k
  unfold stepG In.gates
  rw [blk1_0 m ρ c t b k]
  simp only [e, blk1_4 m ρ c t]

theorem st_eq (b : Fin 1024) : ∀ (n : ℕ) (hn : n ≤ cfg1.N),
    (∀ d : Fin 128, ((st1 (V2 m ρ) c n hn).1 (ix2 b d) : EReal) = ((kIn m c).st b n).1 d) ∧ (∀ d : Fin 128, ((st1 (V2 m ρ) c n hn).2 (ix2 b d) : EReal) = ((kIn m c).st b n).2 d)
  | 0, _ => ⟨fun d => pay11_at b d, fun d => pay12_at b d⟩
  | n + 1, hn => by
    obtain ⟨ih1, ih2⟩ := st_eq b n (Nat.le_of_lt hn)
    have hg := gates_eq m ρ c ⟨n, hn⟩ b _ _ ih1
    have hlt : n < 128 := lt128 ⟨n, hn⟩
    have hm : (⟨n % 128, Nat.mod_lt _ (by norm_num)⟩ : Fin 128) = ⟨n, hlt⟩ := Fin.ext (Nat.mod_eq_of_lt hlt)
    have h2 : (fun d => ((st1 (V2 m ρ) c n (Nat.le_of_lt hn)).2 (ix2 b d) : EReal)) = ((kIn m c).st b n).2 := funext ih2
    constructor
    · intro d
      refine (stepH_at _ _ _ _ b d).trans ?_
      rw [hg, h2]
      show _ = cellH ((kIn m c).gates ⟨n % 128, _⟩ b _) _ d
      rw [hm]
    · intro d
      refine (stepC_at _ _ _ _ b d).trans ?_
      rw [hg, h2]
      show _ = cellC ((kIn m c).gates ⟨n % 128, _⟩ b _) _ d
      rw [hm]

/-! ## What the last point stores -/

theorem hmem_eq (t : Fin cfg1.N) (ht : t.val = 127) (b : Fin 1024) (d : Fin 128) : (hmem1 (V2 m ρ) c t (ix2 b d) : EReal) = (kIn m c).mem b d := by
  obtain ⟨tv, htv⟩ := t
  obtain rfl : tv = 127 := ht
  obtain ⟨ih1, ih2⟩ := st_eq m ρ c b 127 (Nat.le_of_lt htv)
  have hg := gates_eq m ρ c ⟨127, htv⟩ b _ _ ih1
  have h2 : (fun d => ((st1 (V2 m ρ) c 127 (Nat.le_of_lt htv)).2 (ix2 b d) : EReal)) = ((kIn m c).st b 127).2 := funext ih2
  unfold hmem1
  refine (lastM_at _ _ _ _ b d).trans ?_
  rw [hg, h2]
  show _ = cellH ((kIn m c).gates ⟨127 % 128, _⟩ b ((kIn m c).st b 127).1) ((kIn m c).st b 127).2 d
  rfl

theorem outG_eq (t : Fin cfg1.N) (ht : t.val = 127) (b : Fin 1024) :
    outerG (hmem1 (V2 m ρ) c t) (iblk1 (V2 m ρ) c 1 t) (iblk1 (V2 m ρ) c 2 t) (iblk1 (V2 m ρ) c 5 t) (iblk1 (V2 m ρ) c 6 t) (iblk1 (V2 m ρ) c 7 t) (iblk1 (V2 m ρ) c 8 t) b
      = (kIn m c).outG b := by
  funext k
  unfold outerG In.outG
  simp only [hmem_eq m ρ c t ht, blk1_1 m ρ c t, blk1_2 m ρ c t, blk1_5 m ρ c t, blk1_6 m ρ c t, blk1_7 m ρ c t, blk1_8 m ρ c t]

theorem c0_eq (t : Fin cfg1.N) (b : Fin 1024) : (fun d => ((iblk1 (V2 m ρ) c 3 t : Vec Ideal S1024x128 .f32) (ix2 b d) : EReal)) = (kIn m c).c0 b :=
  funext fun d => blk1_3 m ρ c t b d

theorem hnew_eq (t : Fin cfg1.N) (ht : t.val = 127) (b : Fin 1024) (d : Fin 128) : (hnew1 (V2 m ρ) c t (ix2 b d) : EReal) = (kIn m c).newH b d := by
  unfold hnew1 In.newH
  refine (outerH_at _ _ _ _ _ _ _ _ b d).trans ?_
  rw [outG_eq m ρ c t ht, c0_eq]
theorem cnew_eq (t : Fin cfg1.N) (ht : t.val = 127) (b : Fin 1024) (d : Fin 128) : (cnew1 (V2 m ρ) c t (ix2 b d) : EReal) = (kIn m c).newC b d := by
  unfold cnew1 In.newC
  refine (outerC_at _ _ _ _ _ _ _ _ b d).trans ?_
  rw [outG_eq m ρ c t ht, c0_eq]

/-! ## The arrays region 1 leaves -/

theorem flush1_9 : ∀ t : Fin cfg1.N, (cfg1.win 9).flush t = true → t.val = 127 :=
  (by decide +kernel : ∀ t : Fin grid1.N, (cfg1.win 9).flush t = true → t.val = 127)
theorem arr1_9 : (dat1 (V2 m ρ) c).arrAt 9 cfg1.N = fun i : S1024x128.Idx => (kIn m c).newH (i 0) (i 1) := by
  refine (dat1 (V2 m ρ) c).arrAt_eq_of_covers 9 _ (by decide +kernel) fun t hf y => ?_
  have ht := flush1_9 t hf
  blk_simp
  rw [after1_9]
  have e0 : (y 0 : Fin 1024) = ((win1_9.blk t).view.emb y 0 : Fin 1024) := Fin.ext (by
    show (y 0).val = (((win1_9.blk t).view.emb y) 0).val
    blk_simp [idx1_9 t])
  have e1 : (y 1 : Fin 128) = ((win1_9.blk t).view.emb y 1 : Fin 128) := Fin.ext (by
    show (y 1).val = (((win1_9.blk t).view.emb y) 1).val
    blk_simp [idx1_9 t])
  have ey : y = (ix2 (y 0 : Fin 1024) (y 1 : Fin 128) : S1024x128.Idx) := by
    funext a; fin_cases a <;> rfl
  refine (congrArg _ ey).trans ((hnew_eq m ρ c t ht (y 0) (y 1)).trans ?_)
  exact congr (congrArg (kIn m c).newH e0) e1

theorem flush1_10 : ∀ t : Fin cfg1.N, (cfg1.win 10).flush t = true → t.val = 127 :=
  (by decide +kernel : ∀ t : Fin grid1.N, (cfg1.win 10).flush t = true → t.val = 127)
theorem arr1_10 : (dat1 (V2 m ρ) c).arrAt 10 cfg1.N = fun i : S1024x128.Idx => (kIn m c).newC (i 0) (i 1) := by
  refine (dat1 (V2 m ρ) c).arrAt_eq_of_covers 10 _ (by decide +kernel) fun t hf y => ?_
  have ht := flush1_10 t hf
  blk_simp
  rw [after1_10]
  have e0 : (y 0 : Fin 1024) = ((win1_10.blk t).view.emb y 0 : Fin 1024) := Fin.ext (by
    show (y 0).val = (((win1_10.blk t).view.emb y) 0).val
    blk_simp [idx1_10 t])
  have e1 : (y 1 : Fin 128) = ((win1_10.blk t).view.emb y 1 : Fin 128) := Fin.ext (by
    show (y 1).val = (((win1_10.blk t).view.emb y) 1).val
    blk_simp [idx1_10 t])
  have ey : y = (ix2 (y 0 : Fin 1024) (y 1 : Fin 128) : S1024x128.Idx) := by
    funext a; fin_cases a <;> rfl
  refine (congrArg _ ey).trans ((cnew_eq m ρ c t ht (y 0) (y 1)).trans ?_)
  exact congr (congrArg (kIn m c).newC e0) e1

theorem flush1_11 : ∀ t : Fin cfg1.N, (cfg1.win 11).flush t = true → t.val = 127 :=
  (by decide +kernel : ∀ t : Fin grid1.N, (cfg1.win 11).flush t = true → t.val = 127)
theorem arr1_11 : (dat1 (V2 m ρ) c).arrAt 11 cfg1.N = fun i : S1024x128.Idx => (kIn m c).mem (i 0) (i 1) := by
  refine (dat1 (V2 m ρ) c).arrAt_eq_of_covers 11 _ (by decide +kernel) fun t hf y => ?_
  have ht := flush1_11 t hf
  blk_simp
  rw [after1_11]
  have e0 : (y 0 : Fin 1024) = ((win1_11.blk t).view.emb y 0 : Fin 1024) := Fin.ext (by
    show (y 0).val = (((win1_11.blk t).view.emb y) 0).val
    blk_simp [idx1_11 t])
  have e1 : (y 1 : Fin 128) = ((win1_11.blk t).view.emb y 1 : Fin 128) := Fin.ext (by
    show (y 1).val = (((win1_11.blk t).view.emb y) 1).val
    blk_simp [idx1_11 t])
  have ey : y = (ix2 (y 0 : Fin 1024) (y 1 : Fin 128) : S1024x128.Idx) := by
    funext a; fin_cases a <;> rfl
  refine (congrArg _ ey).trans ((hmem_eq m ρ c t ht (y 0) (y 1)).trans ?_)
  exact congr (congrArg (kIn m c).mem e0) e1

end Cert.KernelIdeal.Whole
-- ==== Proof.RArg.lean ====
/- The reference's two index tools: the argmax along a row is the first place of the row's largest entry, and a scatter
   whose index pairs are (row, pick of the row) replaces exactly those entries. -/
module

public import Idealize.ShloMosaic.Lib.Pointwise
public import Idealize.ShloMosaic.Lib.Routing.OpsSet
public import Idealize.ShloMosaic.Lib.Routing.OpsPair
public import proofs.«01_k».proof.Proof.RefRun
public import proofs.«01_k».proof.Proof.Cell

@[expose] public section

set_option maxRecDepth 16384

noncomputable section

namespace Cert.ReferenceIdeal.Index

open Idealize.ShloMosaic Cert.ReferenceIdeal Cert.ReferenceIdeal.Gen Cert.ReferenceIdeal.Value Cert.Cell

/-- What a fold of the argmax body keeps over the pairs met so far. -/
def Kept (L : List (EReal × BitVec 32)) (p : EReal × BitVec 32) : Prop :=
  (∀ q ∈ L, q.1 ≤ p.1) ∧ (p ∈ L ∨ p = (⊥, 0#32)) ∧ ∀ q ∈ L, q.1 = p.1 → p.2.toInt ≤ q.2.toInt

theorem reducer_eq (a b : EReal × BitVec 32) :
    reducer_argmax_f32_i32 (F := Ideal) a b
      = if b.1 < a.1 ∨ (a.1 = b.1 ∧ a.2.toInt < b.2.toInt) then a else b := by
  obtain ⟨a1, a2⟩ := a
  obtain ⟨b1, b2⟩ := b
  unfold reducer_argmax_f32_i32
  simp only [Ideal.cmpf_def, Ideal.cmp, IntOp.cmpi, IntOp.ori, IntOp.andi, Scalar.select]
  by_cases h1 : b1 < a1
  · simp [h1, h1.ne, h1.ne']
  · by_cases h2 : a1 = b1
    · subst h2
      by_cases h3 : a2.toInt < b2.toInt <;> simp [h3, BitVec.slt]
    · simp [h1, h2]

theorem kept_step (L : List (EReal × BitVec 32)) (p q : EReal × BitVec 32) (h : Kept L p) :
    Kept (L ++ [q]) (reducer_argmax_f32_i32 (F := Ideal) p q) := by
  rw [reducer_eq]
  obtain ⟨h1, h2, h3⟩ := h
  split_ifs with hc
  · refine ⟨fun r hr => ?_, h2.imp_left fun h => List.mem_append_left _ h, fun r hr e => ?_⟩
    · rcases List.mem_append.1 hr with hr | hr
      · exact h1 r hr
      · obtain rfl := List.mem_singleton.1 hr
        rcases hc with hc | hc
        · exact hc.le
        · exact hc.1.ge
    · rcases List.mem_append.1 hr with hr | hr
      · exact h3 r hr e
      · obtain rfl := List.mem_singleton.1 hr
        rcases hc with hc | hc
        · exact absurd e hc.ne
        · exact hc.2.le
  · have hle : p.1 ≤ q.1 := not_lt.1 fun h => hc (.inl h)
    have ht : p.1 = q.1 → q.2.toInt ≤ p.2.toInt := fun e => not_lt.1 fun h => hc (.inr ⟨e, h⟩)
    refine ⟨fun r hr => ?_, .inl (List.mem_append_right _ (List.mem_singleton.2 rfl)), fun r hr e => ?_⟩
    · rcases List.mem_append.1 hr with hr | hr
      · exact (h1 r hr).trans hle
      · obtain rfl := List.mem_singleton.1 hr
        exact le_rfl
    · rcases List.mem_append.1 hr with hr | hr
      · have e2 : p.1 = q.1 := le_antisymm hle (e ▸ h1 r hr)
        exact (ht e2).trans (h3 r hr (e.trans e2.symm))
      · obtain rfl := List.mem_singleton.1 hr
        exact le_rfl

theorem kept_foldl (L M : List (EReal × BitVec 32)) (p : EReal × BitVec 32) (h : Kept L p) :
    Kept (L ++ M) (M.foldl (reducer_argmax_f32_i32 (F := Ideal)) p) := by
  induction M generalizing L p with
  | nil => simpa using h
  | cons q M ih =>
    have := ih (L ++ [q]) _ (kept_step L p q h)
    simpa using this

theorem toInt_small (n : Fin 128) : (BitVec.ofNat 32 n.val).toInt = (n.val : Int) := by
  rw [BitVec.toInt_eq_toNat_of_lt] <;> simp <;> omega

/-- The index an argmax body's fold ends with, over all the pairs (value, place) of a row, is the first place of the maximum. -/
theorem kept_end (f : Fin 128 → EReal) (L : List (EReal × BitVec 32)) (p : EReal × BitVec 32) (h : Kept L p)
    (hL : ∀ q, q ∈ L ↔ ∃ n : Fin 128, q = (f n, BitVec.ofNat 32 n.val)) : p.2 = BitVec.ofNat 32 (fst f).val := by
  obtain ⟨h1, h2, h3⟩ := h
  have key : ∀ n : Fin 128, p = (f n, BitVec.ofNat 32 n.val) → p.2 = BitVec.ofNat 32 (fst f).val := by
    rintro n rfl
    have hf : IsFirst f n := by
      refine ⟨fun j => h1 _ ((hL _).2 ⟨j, rfl⟩), fun j hj => lt_of_le_of_ne (h1 _ ((hL _).2 ⟨j, rfl⟩)) fun e => ?_⟩
      have := h3 _ ((hL _).2 ⟨j, rfl⟩) e
      simp only [toInt_small] at this
      have := Fin.lt_def.1 hj
      omega
    show BitVec.ofNat 32 n.val = _
    rw [← fst_unique hf]
  rcases h2 with h2 | h2
  · obtain ⟨n, hn⟩ := (hL _).1 h2
    exact key n hn
  · refine key 0 ?_
    have : f 0 = ⊥ := le_bot_iff.1 (by have := h1 _ ((hL _).2 ⟨0, rfl⟩); rw [h2] at this; exact this)
    rw [h2, this]
    rfl

theorem argmax_at (f : Vec Ideal S1024x128 .f32) (b : Fin 1024) :
    (Host.argReduce (F := Ideal) reducer_argmax_f32_i32 f (iotaInDim S1024x128 32 1) (constant S_ .f32 0xFF800000#32)
        (constantI S_ 32 0#32) reducesTo_S1024x128_S1024_d1 h_S_ (ix1 b)).2
      = BitVec.ofNat 32 (fst fun n => f (ix2 b n)).val := by
  rw [Ideal.argReduce_eq_reduce2, Host.reduce2_eq_foldl_fiber]
  have h0 : Kept [] (⊥, 0#32) := ⟨by simp, .inr rfl, by simp⟩
  have h1 := kept_foldl [] (Host.argReduceFiber f (iotaInDim S1024x128 32 1) reducesTo_S1024x128_S1024_d1 (ix1 b)) _ h0
  rw [List.nil_append, ← ninf_eq] at h1
  refine kept_end _ _ _ h1 fun q => ?_
  unfold Host.argReduceFiber
  rw [List.mem_map]
  constructor
  · rintro ⟨k, hk, rfl⟩
    have hd := congrFun (of_decide_eq_true (List.mem_filter.1 hk).2) 0
    generalize S1024x128.rowMajor.symm k = i at hd
    have e : i = ix2 b (i 1) := by
      funext a
      match a with
      | ⟨0, _⟩ => exact hd
      | ⟨1, _⟩ => rfl
    refine ⟨i 1, ?_⟩
    rw [e]
    rfl
  · rintro ⟨n, rfl⟩
    refine ⟨S1024x128.rowMajor (ix2 b n), List.mem_filter.2 ⟨List.mem_finRange _, ?_⟩, ?_⟩
    · rw [Equiv.symm_apply_apply]
      refine decide_eq_true ?_
      funext a
      match a with
      | ⟨0, _⟩ => rfl
    · rw [Equiv.symm_apply_apply]
      rfl

end Cert.ReferenceIdeal.Index
-- ==== Proof.RScatter.lean ====
/- The reference's scatters: with index pairs (row, place picked in the row) a scatter replaces exactly the entries at
   those places, one entry or one row of entries each. -/
module

public import Idealize.ShloMosaic.Lib.Pointwise
public import Idealize.ShloMosaic.Lib.Routing.OpsSet
public import Idealize.ShloMosaic.Lib.Routing.OpsPair
public import proofs.«01_k».proof.Proof.RefRun
public import proofs.«01_k».proof.Proof.Cell

@[expose] public section

set_option maxRecDepth 16384

noncomputable section

namespace Cert.ReferenceIdeal.Index

open Idealize.ShloMosaic Idealize.ShloMosaic.Routing Cert.ReferenceIdeal Cert.Cell

/-- The index pairs (b, p b), row by row. -/
def Pairs (idx : IVec S1024x2 32) (p : Fin 1024 → Fin 128) : Prop :=
  ∀ b : Fin 1024, (idx (ix2 b 0)).toInt = (b.val : Int) ∧ (idx (ix2 b 1)).toInt = ((p b).val : Int)

theorem start3 (idx : IVec S1024x2 32) (b : Fin 1024) (d : Fin 128) (q : Fin 3) :
    scatter_S1024x128x128_S1024x2_S1024x128_1_01_01_1.start (ix2 b d) idx q
      = (![(idx (ix2 b 0)).toInt, (idx (ix2 b 1)).toInt, 0] : Fin 3 → Int) q := by
  have e : ∀ c : Fin 2, scatter_S1024x128x128_S1024x2_S1024x128_1_01_01_1.siIdx (ix2 b d) c = ix2 b c := by
    intro c
    funext a
    match a with
    | ⟨0, _⟩ => rfl
    | ⟨1, _⟩ => rfl
  unfold ScatterDims.start
  match q with
  | ⟨0, _⟩ => exact congrArg (fun i => (idx i).toInt) (e 0)
  | ⟨1, _⟩ => exact congrArg (fun i => (idx i).toInt) (e 1)
  | ⟨2, _⟩ => rfl

theorem window3 (b : Fin 1024) (d : Fin 128) (q : Fin 3) :
    scatter_S1024x128x128_S1024x2_S1024x128_1_01_01_1.window (ix2 b d) q = (![0, 0, d.val] : Fin 3 → Nat) q := by
  match q with
  | ⟨0, _⟩ => rfl
  | ⟨1, _⟩ => rfl
  | ⟨2, _⟩ => rfl

theorem start2 (idx : IVec S1024x2 32) (b : Fin 1024) (q : Fin 2) :
    scatter_S1024x128_S1024x2_S1024_n_01_01_1.start (ix1 b) idx q = (idx (ix2 b q)).toInt := by
  have e : ∀ c : Fin 2, scatter_S1024x128_S1024x2_S1024_n_01_01_1.siIdx (ix1 b) c = ix2 b c := by
    intro c
    funext a
    match a with
    | ⟨0, _⟩ => rfl
    | ⟨1, _⟩ => rfl
  unfold ScatterDims.start
  match q with
  | ⟨0, _⟩ => exact congrArg (fun i => (idx i).toInt) (e 0)
  | ⟨1, _⟩ => exact congrArg (fun i => (idx i).toInt) (e 1)

theorem window2 (b : Fin 1024) (q : Fin 2) :
    scatter_S1024x128_S1024x2_S1024_n_01_01_1.window (ix1 b) q = 0 := by
  match q with
  | ⟨0, _⟩ => rfl
  | ⟨1, _⟩ => rfl

theorem lands3 {idx : IVec S1024x2 32} {p : Fin 1024 → Fin 128} (hp : Pairs idx p) (b b' : Fin 1024) (d d' n : Fin 128) :
    scatter_S1024x128x128_S1024x2_S1024x128_1_01_01_1.resultIdx? (ix2 b' d') idx = some (ix3 b n d)
      ↔ b' = b ∧ n = p b ∧ d' = d := by
  rw [resultIdx?_eq_some]
  constructor
  · intro h
    have h0 : _ = (b.val : Int) := h 0
    have h1 : _ = (n.val : Int) := h 1
    have h2 : _ = (d.val : Int) := h 2
    rw [start3, window3] at h0 h1 h2
    have h0' : (idx (ix2 b' 0)).toInt + ((0 : Nat) : Int) = (b.val : Int) := h0
    have h1' : (idx (ix2 b' 1)).toInt + ((0 : Nat) : Int) = (n.val : Int) := h1
    have h2' : (0 : Int) + ((d'.val : Nat) : Int) = (d.val : Int) := h2
    rw [(hp b').1] at h0'
    rw [(hp b').2] at h1'
    obtain rfl : b' = b := Fin.ext (by omega)
    exact ⟨rfl, Fin.ext (by omega), Fin.ext (by omega)⟩
  · rintro ⟨rfl, rfl, rfl⟩ q
    rw [start3, window3]
    match q with
    | ⟨0, _⟩ =>
      show (idx (ix2 b' 0)).toInt + ((0 : Nat) : Int) = (b'.val : Int)
      rw [(hp b').1]; omega
    | ⟨1, _⟩ =>
      show (idx (ix2 b' 1)).toInt + ((0 : Nat) : Int) = ((p b').val : Int)
      rw [(hp b').2]; omega
    | ⟨2, _⟩ =>
      show (0 : Int) + ((d'.val : Nat) : Int) = (d'.val : Int)
      omega

theorem lands2 {idx : IVec S1024x2 32} {p : Fin 1024 → Fin 128} (hp : Pairs idx p) (b b' : Fin 1024) (n : Fin 128) :
    scatter_S1024x128_S1024x2_S1024_n_01_01_1.resultIdx? (ix1 b') idx = some (ix2 b n) ↔ b' = b ∧ n = p b := by
  rw [resultIdx?_eq_some]
  constructor
  · intro h
    have h0 : _ = (b.val : Int) := h 0
    have h1 : _ = (n.val : Int) := h 1
    rw [start2, window2] at h0 h1
    rw [(hp b').1] at h0
    rw [(hp b').2] at h1
    obtain rfl : b' = b := Fin.ext (by omega)
    exact ⟨rfl, Fin.ext (by omega)⟩
  · rintro ⟨rfl, rfl⟩ q
    rw [start2, window2]
    match q with
    | ⟨0, _⟩ =>
      show (idx (ix2 b' 0)).toInt + ((0 : Nat) : Int) = (b'.val : Int)
      rw [(hp b').1]; omega
    | ⟨1, _⟩ =>
      show (idx (ix2 b' 1)).toInt + ((0 : Nat) : Int) = ((p b').val : Int)
      rw [(hp b').2]; omega

theorem ix2_eta {a b : Nat} (k : (⟨2, ![a, b]⟩ : Shape).Idx) : k = ix2 (k 0 : Fin a) (k 1 : Fin b) := by
  funext q
  match q with
  | ⟨0, _⟩ => rfl
  | ⟨1, _⟩ => rfl

theorem ix1_eta {a : Nat} (k : (⟨1, ![a]⟩ : Shape).Idx) : k = ix1 (k 0 : Fin a) := by
  funext q
  match q with
  | ⟨0, _⟩ => rfl

theorem scatter3_at {α : Type} {idx : IVec S1024x2 32} {p : Fin 1024 → Fin 128} (hp : Pairs idx p)
    (X : S1024x128x128.Idx → α) (U : S1024x128.Idx → α) (b : Fin 1024) (n d : Fin 128) :
    Host.scatter scatter_S1024x128x128_S1024x2_S1024x128_1_01_01_1 (fun _ u => u) X idx U (ix3 b n d)
      = if n = p b then U (ix2 b d) else X (ix3 b n d) := by
  split_ifs with hn
  · refine scatter_set_hit _ X idx U _ _ (fun k hk => ?_) (ix2 b d) ((lands3 hp b b d d n).2 ⟨rfl, hn, rfl⟩)
    rw [ix2_eta k] at hk ⊢
    obtain ⟨e1, -, e2⟩ := (lands3 hp _ _ _ _ _).1 hk
    exact congrArg U (by rw [e1, e2]; rfl)
  · refine scatter_set_miss _ X idx U _ fun k hk => ?_
    rw [ix2_eta k] at hk
    exact hn ((lands3 hp _ _ _ _ _).1 hk).2.1

theorem scatter2_at {α : Type} {idx : IVec S1024x2 32} {p : Fin 1024 → Fin 128} (hp : Pairs idx p)
    (X : S1024x128.Idx → α) (U : S1024.Idx → α) (b : Fin 1024) (n : Fin 128) :
    Host.scatter scatter_S1024x128_S1024x2_S1024_n_01_01_1 (fun _ u => u) X idx U (ix2 b n)
      = if n = p b then U (ix1 b) else X (ix2 b n) := by
  split_ifs with hn
  · refine scatter_set_hit _ X idx U _ _ (fun k hk => ?_) (ix1 b) ((lands2 hp b b n).2 ⟨rfl, hn⟩)
    rw [ix1_eta k] at hk ⊢
    obtain ⟨e1, -⟩ := (lands2 hp _ _ _).1 hk
    exact congrArg U (by rw [e1]; rfl)
  · refine scatter_set_miss _ X idx U _ fun k hk => ?_
    rw [ix1_eta k] at hk
    exact hn ((lands2 hp _ _ _).1 hk).2

end Cert.ReferenceIdeal.Index
-- ==== Proof.RIn.lean ====
/- The reference's operations before its loop, read at an index from any contents. -/
module

public import proofs.«01_k».proof.Proof.Spec
public import proofs.«01_k».proof.Proof.RefRun
public import proofs.«01_k».proof.Proof.RArg
public import proofs.«01_k».proof.Proof.RScatter
public import Idealize.ShloMosaic.Lib.Pointwise
public import Idealize.ShloMosaic.Lib.StableHlo.ReadAt

@[expose] public section

set_option maxRecDepth 16384

noncomputable section

namespace Cert.ReferenceIdeal.Whole

open Cert.ReferenceIdeal Cert.ReferenceIdeal.Gen Cert.ReferenceIdeal.Value Cert.Cell
open Idealize.ShloMosaic Idealize.ShloMosaic.TcCoe Idealize.ShloMosaic.StableHlo

variable (V : Valuation τ sig (Elt Ideal))

/-- The arguments as plain functions, read from any contents. -/
def rIn : In where
  x b d := (V (Proc.devRef .tc main_arg0) : Vec Ideal S1024x128 .f32) (ix2 b d)
  h0 b d := (V (Proc.devRef .tc main_arg1) : Vec Ideal S1024x128 .f32) (ix2 b d)
  c0 b d := (V (Proc.devRef .tc main_arg2) : Vec Ideal S1024x128 .f32) (ix2 b d)
  S b n d := (V (Proc.devRef .tc main_arg4) : Vec Ideal S1024x128x128 .f32) (ix3 b n d)
  C b n d := (V (Proc.devRef .tc main_arg5) : Vec Ideal S1024x128x128 .f32) (ix3 b n d)
  dt b d := (V (Proc.devRef .tc main_arg6) : Vec Ideal S1024x128 .f32) (ix2 b d)
  wq b d := (V (Proc.devRef .tc main_arg8) : Vec Ideal S128x128 .f32) (ix2 b d)
  wk b d := (V (Proc.devRef .tc main_arg9) : Vec Ideal S128x128 .f32) (ix2 b d)
  wv b d := (V (Proc.devRef .tc main_arg10) : Vec Ideal S128x128 .f32) (ix2 b d)
  bv d := (V (Proc.devRef .tc main_arg11) : Vec Ideal S128 .f32) (ix1 d)
  wi b d := (V (Proc.devRef .tc main_arg12) : Vec Ideal S512x257 .f32) (ix2 b d)
  wh b d := (V (Proc.devRef .tc main_arg13) : Vec Ideal S512x128 .f32) (ix2 b d)
  bi d := (V (Proc.devRef .tc main_arg14) : Vec Ideal S512 .f32) (ix1 d)
  bh d := (V (Proc.devRef .tc main_arg15) : Vec Ideal S512 .f32) (ix1 d)
  oi b d := (V (Proc.devRef .tc main_arg16) : Vec Ideal S512x256 .f32) (ix2 b d)
  ob d := (V (Proc.devRef .tc main_arg17) : Vec Ideal S512 .f32) (ix1 d)
  oh b d := (V (Proc.devRef .tc main_arg18) : Vec Ideal S512x128 .f32) (ix2 b d)

theorem pre_sim (b : Fin 1024) (n : Fin 128) :
    ((after hostOps0 V (Proc.devRef .tc main_v9) : Vec Ideal S1024x128 .f32) (ix2 b n) : EReal) = (rIn V).sim b n := by
  unfold rIn In.sim; after_reads_at
theorem pre_val (b : Fin 1024) (d : Fin 128) :
    ((after hostOps0 V (Proc.devRef .tc main_v14) : Vec Ideal S1024x128 .f32) (ix2 b d) : EReal) = (rIn V).val b d := by
  unfold rIn In.val; after_reads_at
theorem pre_cum (b : Fin 1024) (n d : Fin 128) :
    ((after hostOps0 V (Proc.devRef .tc main_v4) : Vec Ideal S1024x128x128 .f32) (ix3 b n d) : EReal) = (rIn V).C b n d + (rIn V).x b d := by
  unfold rIn; after_reads_at
theorem pre_age (b : Fin 1024) (n : Fin 128) :
    ((after hostOps0 V (Proc.devRef .tc main_v1) : Vec Ideal S1024x128 .f32) (ix2 b n) : EReal) = (rIn V).dt b n + 1 := by
  unfold rIn; after_reads_at

theorem foldl_ori {β : Type} (l : List β) (x : β → BitVec 1) (h : ∀ i, x i = 0#1) :
    l.foldl (fun r i => IntOp.ori r (x i)) 0#1 = 0#1 := by
  induction l with
  | nil => rfl
  | cons a l ih =>
    rw [List.foldl_cons, h a]
    exact ih

/-- With every place filled no place counts as free. -/
theorem pre_free (hf : ∀ i, (V (Proc.devRef .tc main_arg7) : IVec S1024x128 1) i = 1#1) (b : Fin 1024) :
    (after hostOps0 V (Proc.devRef .tc main_v16) : IVec S1024 1) (ix1 b) = 0#1 := by
  have e : (after hostOps0 V (Proc.devRef .tc main_v16) : IVec S1024 1)
      = Host.reduce IntOp.ori (noti (V (Proc.devRef .tc main_arg7) : IVec S1024x128 1)) (constantI S_ 1 0#1) reducesTo_S1024x128_S1024_d1 h_S_ := by
    after_reads_simp []
  rw [e, Host.reduce_eq_foldl]
  refine foldl_ori _ _ fun i => ?_
  exact (congrArg (fun w : BitVec 1 => ~~~ w) (hf i)).trans rfl

theorem arg_at (b : Fin 1024) : (after hostOps0_2 V (Proc.devRef .tc main_v20) : IVec S1024 32) (ix1 b)
    = BitVec.ofNat 32 (fst fun n => (V (Proc.devRef .tc main_v9) : Vec Ideal S1024x128 .f32) (ix2 b n)).val := by
  rw [← Index.argmax_at]
  after_reads_simp []
  rfl

theorem where_at (b : Fin 1024) : (after hostOps0_3 V (Proc.devRef .tc main_v21) : IVec S1024 32) (ix1 b)
    = Scalar.select ((V (Proc.devRef .tc main_v16) : IVec S1024 1) (ix1 b)) ((V (Proc.devRef .tc main_v19) : IVec S1024 32) (ix1 b))
        ((V (Proc.devRef .tc main_v20) : IVec S1024 32) (ix1 b)) := by
  after_reads_at

theorem toInt_lt (k : Nat) (h : k < 2048) : (BitVec.ofNat 32 k).toInt = (k : Int) := by
  rw [BitVec.toInt_eq_toNat_of_lt] <;> simp <;> omega

/-- jnp's wrap of an index that is not negative. -/
theorem wrap_at (k : Nat) (h : k < 2048) (a : BitVec 32) :
    Scalar.select (IntOp.cmpi .slt (BitVec.ofNat 32 k) 0#32) a (BitVec.ofNat 32 k) = BitVec.ofNat 32 k :=
  Routing.wrap_of_lt _ _ (by simp; omega)

theorem pairs_35 (p : Fin 1024 → Fin 128) (hp : ∀ b, (V (Proc.devRef .tc main_v21) : IVec S1024 32) (ix1 b) = BitVec.ofNat 32 (p b).val) :
    Index.Pairs (after hostOps0_4 V (Proc.devRef .tc main_v35) : IVec S1024x2 32) p := by
  intro b
  have e0 : (after hostOps0_4 V (Proc.devRef .tc main_v35) : IVec S1024x2 32) (ix2 b 0)
      = Scalar.select (IntOp.cmpi .slt (BitVec.ofNat 32 b.val) 0#32) (IntOp.addi (BitVec.ofNat 32 b.val) 1024#32) (BitVec.ofNat 32 b.val) := by
    after_reads_at
  have e1 : (after hostOps0_4 V (Proc.devRef .tc main_v35) : IVec S1024x2 32) (ix2 b 1)
      = Scalar.select (IntOp.cmpi .slt ((V (Proc.devRef .tc main_v21) : IVec S1024 32) (ix1 b)) 0#32)
          (IntOp.addi ((V (Proc.devRef .tc main_v21) : IVec S1024 32) (ix1 b)) 128#32) ((V (Proc.devRef .tc main_v21) : IVec S1024 32) (ix1 b)) := by
    after_reads_at
  rw [e0, e1, hp, wrap_at _ (by omega), wrap_at _ (by omega)]
  exact ⟨toInt_lt _ (by omega), toInt_lt _ (by omega)⟩

theorem sc_36 : (after hostOps0_4 V (Proc.devRef .tc main_v36) : Vec Ideal S1024x128x128 .f32)
    = Host.scatter scatter_S1024x128x128_S1024x2_S1024x128_1_01_01_1 (fun _ u => u) (V (Proc.devRef .tc main_arg4) : Vec Ideal S1024x128x128 .f32)
        (after hostOps0_4 V (Proc.devRef .tc main_v35) : IVec S1024x2 32) (V (Proc.devRef .tc main_v14) : Vec Ideal S1024x128 .f32) := by
  after_reads_simp []
  rfl
theorem sc_50 : (after hostOps0_4 V (Proc.devRef .tc main_v50) : Vec Ideal S1024x128x128 .f32)
    = Host.scatter scatter_S1024x128x128_S1024x2_S1024x128_1_01_01_1 (fun _ u => u) (V (Proc.devRef .tc main_v4) : Vec Ideal S1024x128x128 .f32)
        (after hostOps0_4 V (Proc.devRef .tc main_v49) : IVec S1024x2 32) (V (Proc.devRef .tc main_arg0) : Vec Ideal S1024x128 .f32) := by
  after_reads_simp []
  rfl
theorem sc_65 : (after hostOps0_4 V (Proc.devRef .tc main_v65) : Vec Ideal S1024x128 .f32)
    = Host.scatter scatter_S1024x128_S1024x2_S1024_n_01_01_1 (fun _ u => u) (V (Proc.devRef .tc main_v1) : Vec Ideal S1024x128 .f32)
        (after hostOps0_4 V (Proc.devRef .tc main_v63) : IVec S1024x2 32) (after hostOps0_4 V (Proc.devRef .tc main_v64) : Vec Ideal S1024 .f32) := by
  after_reads_simp []
  rfl
theorem sc_80 : (after hostOps0_4 V (Proc.devRef .tc main_v80) : IVec S1024x128 1)
    = Host.scatter scatter_S1024x128_S1024x2_S1024_n_01_01_1 (fun _ u => u) (V (Proc.devRef .tc main_arg7) : IVec S1024x128 1)
        (after hostOps0_4 V (Proc.devRef .tc main_v78) : IVec S1024x2 32) (after hostOps0_4 V (Proc.devRef .tc main_v79) : IVec S1024 1) := by
  after_reads_simp []
  rfl
theorem v_64 (b : Fin 1024) : ((after hostOps0_4 V (Proc.devRef .tc main_v64) : Vec Ideal S1024 .f32) (ix1 b) : EReal) = (0 : EReal) := by
  after_reads_at
theorem v_79 (b : Fin 1024) : (after hostOps0_4 V (Proc.devRef .tc main_v79) : IVec S1024 1) (ix1 b) = 1#1 := by
  after_reads_at
theorem v_80 (i) : (after hostOps0_4 V (Proc.devRef .tc main_v86_5) : IVec S_ 32) i = 0#32 := by
  after_reads_simp []
  rfl

/-- The rows the loop reads: the memory row, the running row and the age side by side. -/
def rows (A B : Vec Ideal S1024x128x128 .f32) (C : Vec Ideal S1024x128x1 .f32) : Vec Ideal S128x1024x257 .f32 :=
  transpose S128x1024x257 [1, 0, 2] (concatenate S1024x128x257 2
    [⟨S1024x128x128, A⟩, ⟨S1024x128x128, B⟩, ⟨S1024x128x1, C⟩] concatenates_S1024x128x128_S1024x128x128_S1024x128x1_S1024x128x257_d2)
    transposes_S1024x128x257_S128x1024x257_1_0_2

theorem rows_slot (A B C) (n : Fin 128) (b : Fin 1024) (d : Fin 128) :
    (rows A B C (ix3 n b ⟨d.val, by omega⟩) : EReal) = A (ix3 b n d) := by
  unfold rows; pointwise
theorem rows_cum (A B C) (n : Fin 128) (b : Fin 1024) (d : Fin 128) :
    (rows A B C (ix3 n b ⟨128 + d.val, by omega⟩) : EReal) = B (ix3 b n d) := by
  unfold rows; pointwise
theorem rows_age (A B C) (n : Fin 128) (b : Fin 1024) :
    (rows A B C (ix3 n b ⟨256, by omega⟩) : EReal) = C (ix3 b n 0) := by
  unfold rows; pointwise

theorem seq_eq : (after hostOps0_4 V (Proc.devRef .tc main_v86_0) : Vec Ideal S128x1024x257 .f32)
    = rows (after hostOps0_4 V (Proc.devRef .tc main_v36)) (after hostOps0_4 V (Proc.devRef .tc main_v50)) (after hostOps0_4 V (Proc.devRef .tc main_v81)) := by
  have e : (after hostOps0_4 V (Proc.devRef .tc main_v86_0) : Vec Ideal S128x1024x257 .f32)
      = rows (upto hostOps0_4 V 78 (Proc.devRef .tc main_v36)) (upto hostOps0_4 V 78 (Proc.devRef .tc main_v50)) (upto hostOps0_4 V 78 (Proc.devRef .tc main_v81)) := by
    unfold rows
    after_reads_simp []
    rfl
  have e1 : upto hostOps0_4 V 78 (Proc.devRef .tc main_v36) = after hostOps0_4 V (Proc.devRef .tc main_v36) := by after_reads_simp []
  have e2 : upto hostOps0_4 V 78 (Proc.devRef .tc main_v50) = after hostOps0_4 V (Proc.devRef .tc main_v50) := by after_reads_simp []
  have e3 : upto hostOps0_4 V 78 (Proc.devRef .tc main_v81) = after hostOps0_4 V (Proc.devRef .tc main_v81) := by after_reads_simp []
  rw [e, e1, e2, e3]

theorem v_81 (n : Fin 128) (b : Fin 1024) : ((after hostOps0_4 V (Proc.devRef .tc main_v81) : Vec Ideal S1024x128x1 .f32) (ix3 b n 0) : EReal)
    = (after hostOps0_4 V (Proc.devRef .tc main_v65) : Vec Ideal S1024x128 .f32) (ix2 b n) := by
  have e : (after hostOps0_4 V (Proc.devRef .tc main_v81) : Vec Ideal S1024x128x1 .f32)
      = broadcastInDim S1024x128x1 ![0, 1] bcast_S1024x128_S1024x128x1_0_1 (after hostOps0_4 V (Proc.devRef .tc main_v65) : Vec Ideal S1024x128 .f32) := by
    after_reads_simp []
  rw [e]
  generalize (after hostOps0_4 V (Proc.devRef .tc main_v65) : Vec Ideal S1024x128 .f32) = A
  pointwise

theorem pairs_49 (p : Fin 1024 → Fin 128) (hp : ∀ b, (V (Proc.devRef .tc main_v21) : IVec S1024 32) (ix1 b) = BitVec.ofNat 32 (p b).val) :
    Index.Pairs (after hostOps0_4 V (Proc.devRef .tc main_v49) : IVec S1024x2 32) p := by
  intro b
  have e0 : (after hostOps0_4 V (Proc.devRef .tc main_v49) : IVec S1024x2 32) (ix2 b 0)
      = Scalar.select (IntOp.cmpi .slt (BitVec.ofNat 32 b.val) 0#32) (IntOp.addi (BitVec.ofNat 32 b.val) 1024#32) (BitVec.ofNat 32 b.val) := by
    after_reads_at
  have e1 : (after hostOps0_4 V (Proc.devRef .tc main_v49) : IVec S1024x2 32) (ix2 b 1)
      = Scalar.select (IntOp.cmpi .slt ((V (Proc.devRef .tc main_v21) : IVec S1024 32) (ix1 b)) 0#32)
          (IntOp.addi ((V (Proc.devRef .tc main_v21) : IVec S1024 32) (ix1 b)) 128#32) ((V (Proc.devRef .tc main_v21) : IVec S1024 32) (ix1 b)) := by
    after_reads_at
  rw [e0, e1, hp, wrap_at _ (by omega), wrap_at _ (by omega)]
  exact ⟨toInt_lt _ (by omega), toInt_lt _ (by omega)⟩

theorem pairs_63 (p : Fin 1024 → Fin 128) (hp : ∀ b, (V (Proc.devRef .tc main_v21) : IVec S1024 32) (ix1 b) = BitVec.ofNat 32 (p b).val) :
    Index.Pairs (after hostOps0_4 V (Proc.devRef .tc main_v63) : IVec S1024x2 32) p := by
  intro b
  have e0 : (after hostOps0_4 V (Proc.devRef .tc main_v63) : IVec S1024x2 32) (ix2 b 0)
      = Scalar.select (IntOp.cmpi .slt (BitVec.ofNat 32 b.val) 0#32) (IntOp.addi (BitVec.ofNat 32 b.val) 1024#32) (BitVec.ofNat 32 b.val) := by
    after_reads_at
  have e1 : (after hostOps0_4 V (Proc.devRef .tc main_v63) : IVec S1024x2 32) (ix2 b 1)
      = Scalar.select (IntOp.cmpi .slt ((V (Proc.devRef .tc main_v21) : IVec S1024 32) (ix1 b)) 0#32)
          (IntOp.addi ((V (Proc.devRef .tc main_v21) : IVec S1024 32) (ix1 b)) 128#32) ((V (Proc.devRef .tc main_v21) : IVec S1024 32) (ix1 b)) := by
    after_reads_at
  rw [e0, e1, hp, wrap_at _ (by omega), wrap_at _ (by omega)]
  exact ⟨toInt_lt _ (by omega), toInt_lt _ (by omega)⟩

theorem pairs_78 (p : Fin 1024 → Fin 128) (hp : ∀ b, (V (Proc.devRef .tc main_v21) : IVec S1024 32) (ix1 b) = BitVec.ofNat 32 (p b).val) :
    Index.Pairs (after hostOps0_4 V (Proc.devRef .tc main_v78) : IVec S1024x2 32) p := by
  intro b
  have e0 : (after hostOps0_4 V (Proc.devRef .tc main_v78) : IVec S1024x2 32) (ix2 b 0)
      = Scalar.select (IntOp.cmpi .slt (BitVec.ofNat 32 b.val) 0#32) (IntOp.addi (BitVec.ofNat 32 b.val) 1024#32) (BitVec.ofNat 32 b.val) := by
    after_reads_at
  have e1 : (after hostOps0_4 V (Proc.devRef .tc main_v78) : IVec S1024x2 32) (ix2 b 1)
      = Scalar.select (IntOp.cmpi .slt ((V (Proc.devRef .tc main_v21) : IVec S1024 32) (ix1 b)) 0#32)
          (IntOp.addi ((V (Proc.devRef .tc main_v21) : IVec S1024 32) (ix1 b)) 128#32) ((V (Proc.devRef .tc main_v21) : IVec S1024 32) (ix1 b)) := by
    after_reads_at
  rw [e0, e1, hp, wrap_at _ (by omega), wrap_at _ (by omega)]
  exact ⟨toInt_lt _ (by omega), toInt_lt _ (by omega)⟩

end Cert.ReferenceIdeal.Whole
-- ==== Proof.RStep.lean ====
/- One trip of the reference's loop at an index: the gates and the cell of the spec. -/
module

public import proofs.«01_k».proof.Proof.Spec
public import proofs.«01_k».proof.Proof.RefRun
public import Idealize.ShloMosaic.Lib.Pointwise
public import Idealize.ShloMosaic.Lib.Tactic.CleanTypes

@[expose] public section

set_option maxRecDepth 16384

noncomputable section

namespace Cert.ReferenceIdeal.Whole

open Cert.ReferenceIdeal Cert.ReferenceIdeal.Gen Cert.ReferenceIdeal.Value Cert.Cell
open Idealize.ShloMosaic

variable (V : Valuation τ sig (Elt Ideal))

/-- The start index of the loop's read of row `k`. -/
abbrev at3 (w : IVec S_ 32) : Fin 3 → Int :=
  fun q => BitVec.toInt ((![w, constantI S_ 32 0#32, constantI S_ 32 0#32] : Fin 3 → IVec S_ 32) q (Shape.Idx.first h_S_))

theorem clamp3 (k : Nat) (hk : k < 128) (w : IVec S_ 32) (hw : w = fun _ => BitVec.ofNat 32 k) (h) (q : Fin 3) :
    Host.clampedStart (⟨3, ![128, 1024, 257]⟩ : Shape) S1x1024x257 h (at3 w) q = (![k, 0, 0] : Fin 3 → Nat) q := by
  subst hw
  refine Host.clampedStart_of_le _ _ _ _ ?_ ?_
  · match q with
    | ⟨0, _⟩ =>
      show (BitVec.ofNat 32 k).toInt = (k : Int)
      rw [BitVec.toInt_eq_toNat_of_lt] <;> simp <;> omega
    | ⟨1, _⟩ => rfl
    | ⟨2, _⟩ => rfl
  · match q with
    | ⟨0, _⟩ => show k + 1 ≤ 128; omega
    | ⟨1, _⟩ => show 0 + 1024 ≤ 1024; omega
    | ⟨2, _⟩ => show 0 + 257 ≤ 257; omega

theorem trip_gates (k : Nat) (hk : k < 128) (hc : (V (Proc.devRef .tc main_v86_5) : IVec S_ 32) = fun _ => BitVec.ofNat 32 k) (b : Fin 1024) (g : Fin 512)
    (row : Fin 257 → EReal) (wi : Fin 257 → EReal) (h wh : Fin 128 → EReal) (bi bh : EReal)
    (hrow : ∀ x, (V (Proc.devRef .tc main_v86_0) : Vec Ideal S128x1024x257 .f32) (ix3 ⟨k, hk⟩ b x) = row x)
    (hwi : ∀ x, (V (Proc.devRef .tc main_v86_1) : Vec Ideal S512x257 .f32) (ix2 g x) = wi x)
    (hbi : (V (Proc.devRef .tc main_v86_2) : Vec Ideal S512 .f32) (ix1 g) = bi)
    (hh : ∀ x, (V (Proc.devRef .tc main_v86_6) : Vec Ideal S1024x128 .f32) (ix2 b x) = h x)
    (hwh : ∀ x, (V (Proc.devRef .tc main_v86_3) : Vec Ideal S512x128 .f32) (ix2 g x) = wh x)
    (hbh : (V (Proc.devRef .tc main_v86_4) : Vec Ideal S512 .f32) (ix1 g) = bh) :
    ((res_main_while0b_v135 V : Vec Ideal S1024x512 .f32) (ix2 b g) : EReal)
      = (∑ x, row x * wi x) + bi + (∑ x, h x * wh x) + bh := by
  subst hbi hbh
  obtain rfl : _ = row := funext hrow
  obtain rfl : _ = wi := funext hwi
  obtain rfl : _ = h := funext hh
  obtain rfl : _ = wh := funext hwh
  unfold res_main_while0b_v135
  clean_types
  pointwise
  have hq := clamp3 k hk _ hc
  congr 3
  refine Finset.sum_congr rfl fun x _ => ?_
  refine congrArg₂ (HMul.hMul (α := EReal) (β := EReal)) (congrArg (V (Proc.devRef .tc main_v86_0)) ?_) rfl
  funext q
  refine Fin.ext ?_
  match q with
  | ⟨0, _⟩ => exact hq rfl 0
  | ⟨1, _⟩ => exact (congrArg (· + b.val) (hq rfl 1)).trans (Nat.zero_add _)
  | ⟨2, _⟩ => exact (congrArg (· + x.val) (hq rfl 2)).trans (Nat.zero_add _)

theorem trip_c (b : Fin 1024) (d : Fin 128) :
    ((step_main_v86_7 V : Vec Ideal S1024x128 .f32) (ix2 b d) : EReal)
      = cellC (fun g => (res_main_while0b_v135 V : Vec Ideal S1024x512 .f32) (ix2 b g)) (fun d => (V (Proc.devRef .tc main_v86_7) : Vec Ideal S1024x128 .f32) (ix2 b d)) d := by
  show (res_main_while0b_v155 V : Vec Ideal S1024x128 .f32) (ix2 b d) = _
  unfold res_main_while0b_v155 cellC sg
  clean_types
  pointwise
  rfl

theorem trip_h (b : Fin 1024) (d : Fin 128) :
    ((step_main_v86_6 V : Vec Ideal S1024x128 .f32) (ix2 b d) : EReal)
      = cellH (fun g => (res_main_while0b_v135 V : Vec Ideal S1024x512 .f32) (ix2 b g)) (fun d => (V (Proc.devRef .tc main_v86_7) : Vec Ideal S1024x128 .f32) (ix2 b d)) d := by
  unfold cellH
  rw [← trip_c]
  unfold step_main_v86_6 step_main_v86_7 sg
  simp only [id]
  clean_types
  pointwise
  rfl

end Cert.ReferenceIdeal.Whole
-- ==== Proof.RLoop.lean ====
/- The reference program's results at an index: what it holds before the loop, the loop's trips, what it ends with. -/
module

public import proofs.«01_k».proof.Proof.RIn
public import proofs.«01_k».proof.Proof.RStep

@[expose] public section

set_option maxRecDepth 16384

noncomputable section

namespace Cert.ReferenceIdeal.Whole

open Cert.ReferenceIdeal Cert.ReferenceIdeal.Gen Cert.ReferenceIdeal.Value Cert.Cell
open Idealize.ShloMosaic Idealize.ShloMosaic.TcCoe Idealize.ShloMosaic.StableHlo

variable (V : Valuation τ sig (Elt Ideal))

/-- The contents before the last stretch that precedes the loop. -/
def front : Valuation τ sig (Elt Ideal) := after hostOps0_3 (after hostOps0_2 (after hostOps0_1 (after hostOps0 V)))

theorem before_first (r : Ref sig .tc) (h : r ∉ hostOps0_1_W ++ hostOps0_2_W ++ hostOps0_3_W) :
    front V (Proc.devRef .tc r) = after hostOps0 V (Proc.devRef .tc r) := by
  simp only [List.mem_append, not_or] at h
  unfold front
  rw [after_kept hostOps0_3_writes _ _ h.2, after_kept hostOps0_2_writes _ _ h.1.2, after_kept hostOps0_1_writes _ _ h.1.1]

theorem before_arg (r : Ref sig .tc) (h : r ∉ hostOps0_W ++ (hostOps0_1_W ++ hostOps0_2_W ++ hostOps0_3_W)) :
    front V (Proc.devRef .tc r) = V (Proc.devRef .tc r) := by
  rw [before_first V r fun q => h (List.mem_append_right _ q), after_kept hostOps0_writes _ _ fun q => h (List.mem_append_left _ q)]

/-- Every place is filled. -/
def Full : Prop := ∀ i, (V (Proc.devRef .tc main_arg7) : IVec S1024x128 1) i = 1#1

theorem before_pick (hf : Full V) (b : Fin 1024) :
    (front V (Proc.devRef .tc main_v21) : IVec S1024 32) (ix1 b) = BitVec.ofNat 32 ((rIn V).pick b).val := by
  unfold front
  rw [where_at, after_kept hostOps0_2_writes _ main_v16 (by decide), after_kept hostOps0_1_writes _ main_v16 (by decide), pre_free V hf, arg_at,
    after_kept hostOps0_1_writes _ main_v9 (by decide)]
  show BitVec.ofNat 32 (fst fun n => (after hostOps0 V (Proc.devRef .tc main_v9) : Vec Ideal S1024x128 .f32) (ix2 b n)).val = _
  have e : (fun n => (after hostOps0 V (Proc.devRef .tc main_v9) : Vec Ideal S1024x128 .f32) (ix2 b n)) = (rIn V).sim b := funext fun n => pre_sim V b n
  rw [e]
  rfl

theorem entry_slot (hf : Full V) (b : Fin 1024) (n d : Fin 128) :
    ((after hostOps0_4 (front V) (Proc.devRef .tc main_v36) : Vec Ideal S1024x128x128 .f32) (ix3 b n d) : EReal) = (rIn V).slot b n d := by
  rw [sc_36, Index.scatter3_at (pairs_35 _ _ (before_pick V hf)), before_arg V main_arg4 (by decide), before_first V main_v14 (by decide), pre_val]
  rfl

theorem entry_cum (hf : Full V) (b : Fin 1024) (n d : Fin 128) :
    ((after hostOps0_4 (front V) (Proc.devRef .tc main_v50) : Vec Ideal S1024x128x128 .f32) (ix3 b n d) : EReal) = (rIn V).cum b n d := by
  rw [sc_50, Index.scatter3_at (pairs_49 _ _ (before_pick V hf)), before_arg V main_arg0 (by decide), before_first V main_v4 (by decide), pre_cum]
  rfl

theorem entry_age (hf : Full V) (b : Fin 1024) (n : Fin 128) :
    ((after hostOps0_4 (front V) (Proc.devRef .tc main_v65) : Vec Ideal S1024x128 .f32) (ix2 b n) : EReal) = (rIn V).age b n := by
  rw [sc_65, Index.scatter2_at (pairs_63 _ _ (before_pick V hf)), before_first V main_v1 (by decide), v_64, pre_age]
  rfl

theorem entry_filled (hf : Full V) : (after hostOps0_4 (front V) (Proc.devRef .tc main_v80) : IVec S1024x128 1) = (V (Proc.devRef .tc main_arg7) : IVec S1024x128 1) := by
  have e : ∀ b n, (after hostOps0_4 (front V) (Proc.devRef .tc main_v80) : IVec S1024x128 1) (ix2 b n) = (V (Proc.devRef .tc main_arg7) : IVec S1024x128 1) (ix2 b n) := by
    intro b n
    rw [sc_80, Index.scatter2_at (pairs_78 _ _ (before_pick V hf)), before_arg V main_arg7 (by decide), v_79]
    split_ifs
    · exact (hf _).symm
    · rfl
  funext i
  obtain ⟨b, n, rfl⟩ : ∃ b n, i = ix2 b n := ⟨_, _, Index.ix2_eta i⟩
  exact e b n

theorem sum257 (f : Fin 257 → EReal) :
    ∑ x, f x = (∑ d : Fin 128, f ⟨d.val, by omega⟩) + (∑ d : Fin 128, f ⟨128 + d.val, by omega⟩) + f ⟨256, by omega⟩ := by
  rw [Fin.sum_univ_castSucc, Fin.sum_univ_add (a := 128) (b := 128)]
  rfl

theorem regroup (t u s v : EReal) : t + u + s + v = t + (u + v) + s := by
  rw [add_right_comm (t + u) s, add_assoc t]

/-- The entry's gate sum. -/
theorem entry_gate (hf : Full V) (n : Fin 128) (b : Fin 1024) (g : Fin 512) (s : EReal) :
    (∑ x, (show EReal from (after hostOps0_4 (front V) (Proc.devRef .tc main_v86_0) : Vec Ideal S128x1024x257 .f32) (ix3 n b x)) * (rIn V).wi g x) + (rIn V).bi g + s + (rIn V).bh g
      = (rIn V).gate n b g + s := by
  have e0 : ∀ d : Fin 128, (after hostOps0_4 (front V) (Proc.devRef .tc main_v86_0) : Vec Ideal S128x1024x257 .f32) (ix3 n b ⟨d.val, by omega⟩) = (rIn V).slot b n d := fun d => by
    rw [seq_eq, rows_slot, entry_slot V hf]
  have e1 : ∀ d : Fin 128, (after hostOps0_4 (front V) (Proc.devRef .tc main_v86_0) : Vec Ideal S128x1024x257 .f32) (ix3 n b ⟨128 + d.val, by omega⟩) = (rIn V).cum b n d := fun d => by
    rw [seq_eq, rows_cum, entry_cum V hf]
  have e2 : (after hostOps0_4 (front V) (Proc.devRef .tc main_v86_0) : Vec Ideal S128x1024x257 .f32) (ix3 n b ⟨256, by omega⟩) = (rIn V).age b n := by
    rw [seq_eq, rows_age, v_81, entry_age V hf]
  rw [sum257]
  unfold In.gate
  have h0 := Finset.sum_congr (rfl : (Finset.univ : Finset (Fin 128)) = Finset.univ)
    fun d _ => congrArg (fun e : EReal => e * (rIn V).wi g ⟨d.val, by omega⟩) (e0 d)
  have h1 := Finset.sum_congr (rfl : (Finset.univ : Finset (Fin 128)) = Finset.univ)
    fun d _ => congrArg (fun e : EReal => e * (rIn V).wi g ⟨128 + d.val, by omega⟩) (e1 d)
  have h2 := congrArg (fun e : EReal => e * (rIn V).wi g ⟨256, by omega⟩) e2
  have ht := congrArg₂ (HAdd.hAdd (α := EReal) (β := EReal)) (congrArg₂ (HAdd.hAdd (α := EReal) (β := EReal)) h0 h1) h2
  refine (congrArg (fun t : EReal => t + (rIn V).bi g + s + (rIn V).bh g) ht).trans ?_
  exact regroup _ _ _ _

theorem entry_1 : after hostOps0_4 (front V) (Proc.devRef .tc main_v86_1) = V (Proc.devRef .tc main_arg12) := by
  refine Eq.trans ?_ (before_arg V main_arg12 (by decide))
  generalize front V = W
  after_reads_simp []
  rfl
theorem entry_2 : after hostOps0_4 (front V) (Proc.devRef .tc main_v86_2) = V (Proc.devRef .tc main_arg14) := by
  refine Eq.trans ?_ (before_arg V main_arg14 (by decide))
  generalize front V = W
  after_reads_simp []
  rfl
theorem entry_3 : after hostOps0_4 (front V) (Proc.devRef .tc main_v86_3) = V (Proc.devRef .tc main_arg13) := by
  refine Eq.trans ?_ (before_arg V main_arg13 (by decide))
  generalize front V = W
  after_reads_simp []
  rfl
theorem entry_4 : after hostOps0_4 (front V) (Proc.devRef .tc main_v86_4) = V (Proc.devRef .tc main_arg15) := by
  refine Eq.trans ?_ (before_arg V main_arg15 (by decide))
  generalize front V = W
  after_reads_simp []
  rfl
theorem entry_5 : (after hostOps0_4 (front V) (Proc.devRef .tc main_v86_5) : IVec S_ 32) = fun _ => BitVec.ofNat 32 0 := by
  generalize front V = W
  after_reads_simp []
  rfl
theorem entry_6 (b : Fin 1024) (d : Fin 128) : ((after hostOps0_4 (front V) (Proc.devRef .tc main_v86_6) : Vec Ideal S1024x128 .f32) (ix2 b d) : EReal) = (0 : EReal) := by
  generalize front V = W
  after_reads_simp []
  show (broadcastInDim S1024x128 ![] bcast_S_S1024x128 (constant (F := Ideal) S_ FTy.f32 0#32) (ix2 b d) : EReal) = 0
  pointwise
theorem entry_7 (b : Fin 1024) (d : Fin 128) : ((after hostOps0_4 (front V) (Proc.devRef .tc main_v86_7) : Vec Ideal S1024x128 .f32) (ix2 b d) : EReal) = (0 : EReal) := by
  generalize front V = W
  after_reads_simp []
  show (broadcastInDim S1024x128 ![] bcast_S_S1024x128 (constant (F := Ideal) S_ FTy.f32 0#32) (ix2 b d) : EReal) = 0
  pointwise

/-- The carried buffers after `k` trips. -/
structure At (k : Nat) (W : Valuation τ sig (Elt Ideal)) : Prop where
  a0 : W (Proc.devRef .tc main_v86_0) = after hostOps0_4 (front V) (Proc.devRef .tc main_v86_0)
  a1 : W (Proc.devRef .tc main_v86_1) = V (Proc.devRef .tc main_arg12)
  a2 : W (Proc.devRef .tc main_v86_2) = V (Proc.devRef .tc main_arg14)
  a3 : W (Proc.devRef .tc main_v86_3) = V (Proc.devRef .tc main_arg13)
  a4 : W (Proc.devRef .tc main_v86_4) = V (Proc.devRef .tc main_arg15)
  a5 : (W (Proc.devRef .tc main_v86_5) : IVec S_ 32) = fun _ => BitVec.ofNat 32 k
  a6 : ∀ b d, (W (Proc.devRef .tc main_v86_6) : Vec Ideal S1024x128 .f32) (ix2 b d) = ((rIn V).st b k).1 d
  a7 : ∀ b d, (W (Proc.devRef .tc main_v86_7) : Vec Ideal S1024x128 .f32) (ix2 b d) = ((rIn V).st b k).2 d

theorem at_zero : At V 0 (after hostOps0_4 (front V)) :=
  ⟨rfl, entry_1 V, entry_2 V, entry_3 V, entry_4 V, entry_5 V, fun b d => entry_6 V b d, fun b d => entry_7 V b d⟩

theorem at_gates (hf : Full V) (k : Nat) (hk : k < 128) (W : Valuation τ sig (Elt Ideal)) (h : At V k W) (b : Fin 1024) (g : Fin 512) :
    ((res_main_while0b_v135 W : Vec Ideal S1024x512 .f32) (ix2 b g) : EReal)
      = (rIn V).gates ⟨k % 128, Nat.mod_lt _ (by norm_num)⟩ b ((rIn V).st b k).1 g := by
  have e : (⟨k % 128, Nat.mod_lt _ (by norm_num)⟩ : Fin 128) = ⟨k, hk⟩ := Fin.ext (Nat.mod_eq_of_lt hk)
  rw [e, trip_gates W k hk h.a5 b g (fun x => (after hostOps0_4 (front V) (Proc.devRef .tc main_v86_0) : Vec Ideal S128x1024x257 .f32) (ix3 ⟨k, hk⟩ b x)) ((rIn V).wi g)
    ((rIn V).st b k).1 ((rIn V).wh g) ((rIn V).bi g) ((rIn V).bh g) (fun x => congrFun h.a0 _) (fun x => congrFun h.a1 _) (congrFun h.a2 _)
    (h.a6 b) (fun x => congrFun h.a3 _) (congrFun h.a4 _)]
  exact entry_gate V hf ⟨k, hk⟩ b g _

theorem at_succ (hf : Full V) (k : Nat) (hk : k < 128) (W : Valuation τ sig (Elt Ideal)) (h : At V k W) : At V (k + 1) (STEP W) := by
  have hg : ∀ b, (fun g => (res_main_while0b_v135 W : Vec Ideal S1024x512 .f32) (ix2 b g))
      = (rIn V).gates ⟨k % 128, Nat.mod_lt _ (by norm_num)⟩ b ((rIn V).st b k).1 := fun b => funext fun g => at_gates V hf k hk W h b g
  refine ⟨(STEP_main_v86_0 W).trans h.a0, (STEP_main_v86_1 W).trans h.a1, (STEP_main_v86_2 W).trans h.a2, (STEP_main_v86_3 W).trans h.a3,
    (STEP_main_v86_4 W).trans h.a4, ?_, fun b d => ?_, fun b d => ?_⟩
  · rw [STEP_main_v86_5]
    funext i
    have e := congrFun h.a5 i
    show (show BitVec 32 from (W (Proc.devRef .tc main_v86_5) : IVec S_ 32) i) + 1#32 = _
    refine (congrArg (· + 1#32) e).trans ?_
    show BitVec.ofNat 32 k + BitVec.ofNat 32 1 = _
    rw [← BitVec.ofNat_add]
  · rw [STEP_main_v86_6]
    refine (trip_h W b d).trans ?_
    rw [hg b, show (fun d => (W (Proc.devRef .tc main_v86_7) : Vec Ideal S1024x128 .f32) (ix2 b d)) = _ from funext (h.a7 b)]
    rfl
  · rw [STEP_main_v86_7]
    refine (trip_c W b d).trans ?_
    rw [hg b, show (fun d => (W (Proc.devRef .tc main_v86_7) : Vec Ideal S1024x128 .f32) (ix2 b d)) = _ from funext (h.a7 b)]
    rfl

theorem at_iter (hf : Full V) : ∀ k, k ≤ 128 → At V k (STEP^[k] (after hostOps0_4 (front V)))
  | 0, _ => at_zero V
  | k + 1, hk => by
    rw [Function.iterate_succ_apply']
    exact at_succ V hf k (by omega) _ (at_iter hf k (by omega))

end Cert.ReferenceIdeal.Whole
-- ==== Proof.RPost.lean ====
/- The reference's operations after its loop, read at an index from any contents. -/
module

public import proofs.«01_k».proof.Proof.RIn

@[expose] public section

set_option maxRecDepth 16384

noncomputable section

namespace Cert.ReferenceIdeal.Whole

open Cert.ReferenceIdeal Cert.ReferenceIdeal.Gen Cert.ReferenceIdeal.Value Cert.Cell
open Idealize.ShloMosaic Idealize.ShloMosaic.TcCoe Idealize.ShloMosaic.StableHlo

variable (V : Valuation τ sig (Elt Ideal))

/-- The outer cell's gates at a given memory answer. -/
def outOf (I : In) (mem : Fin 128 → EReal) (b : Fin 1024) (g : Fin 512) : EReal :=
  ((∑ d : Fin 128, I.x b d * I.oi g ⟨d.val, by omega⟩) + (∑ d : Fin 128, mem d * I.oi g ⟨128 + d.val, by omega⟩) + I.ob g) + ∑ d : Fin 128, I.h0 b d * I.oh g d

theorem post_c (b : Fin 1024) (mem : Fin 128 → EReal)
    (hm : ∀ d, (V (Proc.devRef .tc main_v86_6) : Vec Ideal S1024x128 .f32) (ix2 b d) = mem d) (d : Fin 128) :
    ((after hostOps0_5 V (Proc.devRef .tc main_v115) : Vec Ideal S1024x128 .f32) (ix2 b d) : EReal)
      = cellC (outOf (rIn V) mem b) ((rIn V).c0 b) d := by
  obtain rfl : _ = mem := funext hm
  unfold cellC sg outOf rIn
  after_reads_at
  rfl

theorem post_h (b : Fin 1024) (mem : Fin 128 → EReal)
    (hm : ∀ d, (V (Proc.devRef .tc main_v86_6) : Vec Ideal S1024x128 .f32) (ix2 b d) = mem d) (d : Fin 128) :
    ((after hostOps0_5 V (Proc.devRef .tc main_v123) : Vec Ideal S1024x128 .f32) (ix2 b d) : EReal)
      = cellH (outOf (rIn V) mem b) ((rIn V).c0 b) d := by
  obtain rfl : _ = mem := funext hm
  unfold cellH cellC sg outOf rIn
  after_reads_at
  rfl

end Cert.ReferenceIdeal.Whole
-- ==== Proof.RFinal.lean ====
/- What the reference program's results hold at the end, when every place is filled. -/
module

public import proofs.«01_k».proof.Proof.RLoop
public import proofs.«01_k».proof.Proof.RPost

@[expose] public section

set_option maxRecDepth 16384

noncomputable section

namespace Cert.ReferenceIdeal.Whole

open Cert.ReferenceIdeal Cert.ReferenceIdeal.Gen Cert.ReferenceIdeal.Value Cert.Cell
open Idealize.ShloMosaic Idealize.ShloMosaic.TcCoe Idealize.ShloMosaic.StableHlo

variable (m : (ℓ : Loc nD τ sig) → Buf (Elt Ideal) ℓ) (c : Dev nD)

/-- What core `c` starts with. -/
abbrev start : Valuation τ sig (Elt Ideal) := launchContents m c

theorem entry_eq : entryContents preI m c = after hostOps0_4 (front (start m c)) := by
  unfold front
  simp only [entryContents, afterL_cons, afterL_nil]

theorem ix3_eta {a b d : Nat} (k : (⟨3, ![a, b, d]⟩ : Shape).Idx) : k = ix3 (k 0 : Fin a) (k 1 : Fin b) (k 2 : Fin d) := by
  funext q
  match q with
  | ⟨0, _⟩ => rfl
  | ⟨1, _⟩ => rfl
  | ⟨2, _⟩ => rfl

theorem fin_36 (hf : Full (start m c)) : (finalContents condOps preI bodyI postI 128 m c (Proc.devRef .tc main_v36) : Vec Ideal S1024x128x128 .f32)
    = fun i : S1024x128x128.Idx => (rIn (start m c)).slot (i 0) (i 1) (i 2) := by
  rw [final_entry m c main_v36 (by decide), entry_eq]
  funext i
  obtain ⟨a, b, d, rfl⟩ : ∃ a b d, i = ix3 a b d := ⟨_, _, _, ix3_eta i⟩
  exact entry_slot (start m c) hf a b d

theorem fin_50 (hf : Full (start m c)) : (finalContents condOps preI bodyI postI 128 m c (Proc.devRef .tc main_v50) : Vec Ideal S1024x128x128 .f32)
    = fun i : S1024x128x128.Idx => (rIn (start m c)).cum (i 0) (i 1) (i 2) := by
  rw [final_entry m c main_v50 (by decide), entry_eq]
  funext i
  obtain ⟨a, b, d, rfl⟩ : ∃ a b d, i = ix3 a b d := ⟨_, _, _, ix3_eta i⟩
  exact entry_cum (start m c) hf a b d

theorem fin_65 (hf : Full (start m c)) : (finalContents condOps preI bodyI postI 128 m c (Proc.devRef .tc main_v65) : Vec Ideal S1024x128 .f32)
    = fun i : S1024x128.Idx => (rIn (start m c)).age (i 0) (i 1) := by
  rw [final_entry m c main_v65 (by decide), entry_eq]
  funext i
  obtain ⟨a, b, rfl⟩ : ∃ a b, i = ix2 a b := ⟨_, _, Index.ix2_eta i⟩
  exact entry_age (start m c) hf a b

theorem fin_80 (hf : Full (start m c)) : (finalContents condOps preI bodyI postI 128 m c (Proc.devRef .tc main_v80) : IVec S1024x128 1)
    = (m ((c.tc : Thread nD τ).loc main_arg7) : IVec S1024x128 1) := by
  rw [final_entry m c main_v80 (by decide), entry_eq]
  exact entry_filled (start m c) hf

/-- The memory's answer, after the last trip. -/
theorem loop_mem (hf : Full (start m c)) (b : Fin 1024) (d : Fin 128) :
    ((after condOps (atK m 128 c) (Proc.devRef .tc main_v86_6) : Vec Ideal S1024x128 .f32) (ix2 b d) : EReal) = (rIn (start m c)).mem b d := by
  rw [after_kept condOps_writes _ _ (by decide), atK_agree m c 128 main_v86_6 (by decide), entry_eq]
  exact (at_iter (start m c) hf 128 le_rfl).a6 b d

theorem fin_mem (hf : Full (start m c)) : (finalContents condOps preI bodyI postI 128 m c (Proc.devRef .tc main_v86_6) : Vec Ideal S1024x128 .f32)
    = fun i : S1024x128.Idx => (rIn (start m c)).mem (i 0) (i 1) := by
  have e : finalContents condOps preI bodyI postI 128 m c (Proc.devRef .tc main_v86_6) = after condOps (atK m 128 c) (Proc.devRef .tc main_v86_6) := by
    simp only [finalContents, afterL_cons, afterL_nil]
    rw [after_kept hostOps0_5_writes _ _ (by decide)]
  rw [e]
  funext i
  obtain ⟨a, b, rfl⟩ : ∃ a b, i = ix2 a b := ⟨_, _, Index.ix2_eta i⟩
  exact loop_mem m c hf a b

theorem arg_end (r : Ref sig .tc) (hr : r ∉ written ++ writtenLoop) :
    after condOps (atK m 128 c) (Proc.devRef .tc r) = start m c (Proc.devRef .tc r) := by
  rw [List.mem_append, not_or] at hr
  have h2 := hr.2
  simp only [writtenLoop, List.mem_append, not_or] at h2
  rw [after_kept condOps_writes _ _ h2.1.1, loop_kept m c r hr.2, entry_kept m c r hr.1]

theorem rIn_end : rIn (after condOps (atK m 128 c)) = rIn (start m c) := by
  unfold rIn
  rw [arg_end m c main_arg0 (by decide), arg_end m c main_arg1 (by decide), arg_end m c main_arg2 (by decide), arg_end m c main_arg4 (by decide),
    arg_end m c main_arg5 (by decide), arg_end m c main_arg6 (by decide), arg_end m c main_arg8 (by decide), arg_end m c main_arg9 (by decide),
    arg_end m c main_arg10 (by decide), arg_end m c main_arg11 (by decide), arg_end m c main_arg12 (by decide), arg_end m c main_arg13 (by decide),
    arg_end m c main_arg14 (by decide), arg_end m c main_arg15 (by decide), arg_end m c main_arg16 (by decide), arg_end m c main_arg17 (by decide),
    arg_end m c main_arg18 (by decide)]

theorem final_post : finalContents condOps preI bodyI postI 128 m c = after hostOps0_5 (after condOps (atK m 128 c)) := by
  simp only [finalContents, afterL_cons, afterL_nil]

theorem fin_c (hf : Full (start m c)) : (finalContents condOps preI bodyI postI 128 m c (Proc.devRef .tc main_v115) : Vec Ideal S1024x128 .f32)
    = fun i : S1024x128.Idx => (rIn (start m c)).newC (i 0) (i 1) := by
  rw [final_post]
  funext i
  obtain ⟨a, b, rfl⟩ : ∃ a b, i = ix2 a b := ⟨_, _, Index.ix2_eta i⟩
  refine (post_c _ a _ (loop_mem m c hf a) b).trans ?_
  rw [rIn_end]
  rfl

theorem fin_h (hf : Full (start m c)) : (finalContents condOps preI bodyI postI 128 m c (Proc.devRef .tc main_v123) : Vec Ideal S1024x128 .f32)
    = fun i : S1024x128.Idx => (rIn (start m c)).newH (i 0) (i 1) := by
  rw [final_post]
  funext i
  obtain ⟨a, b, rfl⟩ : ∃ a b, i = ix2 a b := ⟨_, _, Index.ix2_eta i⟩
  refine (post_h _ a _ (loop_mem m c hf a) b).trans ?_
  rw [rIn_end]
  rfl

end Cert.ReferenceIdeal.Whole
-- ==== Proof.Agree.lean ====
/- The results of the kernel and the reference are one function of the arguments. -/
module

public import proofs.«01_k».proof.Defs
public import proofs.«01_k».proof.Proof.KScan
public import proofs.«01_k».proof.Proof.RFinal
public import Idealize.ShloMosaic.Lib.ReduceAll

@[expose] public section

set_option maxRecDepth 16384

noncomputable section

open Idealize.ShloMosaic Idealize.ShloMosaic.TcCoe Idealize.ShloMosaic.StableHlo Idealize.SL.Sem

namespace Cert.KernelIdeal.Whole

open Cert.KernelIdeal Cert.KernelIdeal.Gen Cert.Cell

variable (m : (ℓ : Loc nD τ sig) → Buf (Elt Ideal) ℓ) (ρ : Dev nD → PrngReg) (c : Dev nD)

/-- The seven results, as functions of the arguments. -/
def resH : Buf (Elt Ideal) ((c.tc : Thread nD τ).loc main_v0_0) := fun i : S1024x128.Idx => (kIn m c).newH (i 0) (i 1)
def resC : Buf (Elt Ideal) ((c.tc : Thread nD τ).loc main_v0_1) := fun i : S1024x128.Idx => (kIn m c).newC (i 0) (i 1)
def resMem : Buf (Elt Ideal) ((c.tc : Thread nD τ).loc main_v0_2) := fun i : S1024x128.Idx => (kIn m c).mem (i 0) (i 1)
def resSlot : Buf (Elt Ideal) ((c.tc : Thread nD τ).loc main_v0_3) := fun i : S1024x128x128.Idx => (kIn m c).slot (i 0) (i 1) (i 2)
def resCum : Buf (Elt Ideal) ((c.tc : Thread nD τ).loc main_v0_4) := fun i : S1024x128x128.Idx => (kIn m c).cum (i 0) (i 1) (i 2)
def resAge : Buf (Elt Ideal) ((c.tc : Thread nD τ).loc main_v0_5) := fun i : S1024x128.Idx => (kIn m c).age (i 0) (i 1)
def resFull : Buf (Elt Ideal) ((c.tc : Thread nD τ).loc main_arg7) := m ((c.tc : Thread nD τ).loc main_arg7)

theorem end_h : W3 m ρ c (Proc.devRef .tc main_v0_0) = resH m c := (W3_arr m ρ c 9).trans (arr1_9 m ρ c)
theorem end_c : W3 m ρ c (Proc.devRef .tc main_v0_1) = resC m c := (W3_arr m ρ c 10).trans (arr1_10 m ρ c)
theorem end_mem : W3 m ρ c (Proc.devRef .tc main_v0_2) = resMem m c := (W3_arr m ρ c 11).trans (arr1_11 m ρ c)
theorem end_slot : W3 m ρ c (Proc.devRef .tc main_v0_3) = resSlot m c :=
  (W3_of m ρ c main_v0_3 (by decide)).trans ((W2_arr m ρ c 12).trans (arr0_12 m ρ c))
theorem end_cum : W3 m ρ c (Proc.devRef .tc main_v0_4) = resCum m c :=
  (W3_of m ρ c main_v0_4 (by decide)).trans ((W2_arr m ρ c 13).trans (arr0_13 m ρ c))
theorem end_age : W3 m ρ c (Proc.devRef .tc main_v0_5) = resAge m c :=
  (W3_of m ρ c main_v0_5 (by decide)).trans ((W2_arr m ρ c 14).trans (arr0_14 m ρ c))

end Cert.KernelIdeal.Whole

namespace Cert.Agree

open Cert.Cell

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

instance preFacts : Cert.Pre_all_filled.Facts := ⟨by decide, by decide⟩

/-- Both programs start from the same arguments on core `c`. -/
def Args (c : Dev KernelIdeal.nD) : Prop :=
  m' ((c.tc : Thread ReferenceIdeal.nD ReferenceIdeal.τ).loc ReferenceIdeal.main_arg0) = m ((c.tc : Thread KernelIdeal.nD KernelIdeal.τ).loc KernelIdeal.main_arg0)
  ∧ m' ((c.tc : Thread ReferenceIdeal.nD ReferenceIdeal.τ).loc ReferenceIdeal.main_arg1) = m ((c.tc : Thread KernelIdeal.nD KernelIdeal.τ).loc KernelIdeal.main_arg1)
  ∧ m' ((c.tc : Thread ReferenceIdeal.nD ReferenceIdeal.τ).loc ReferenceIdeal.main_arg2) = m ((c.tc : Thread KernelIdeal.nD KernelIdeal.τ).loc KernelIdeal.main_arg2)
  ∧ m' ((c.tc : Thread ReferenceIdeal.nD ReferenceIdeal.τ).loc ReferenceIdeal.main_arg3) = m ((c.tc : Thread KernelIdeal.nD KernelIdeal.τ).loc KernelIdeal.main_arg3)
  ∧ m' ((c.tc : Thread ReferenceIdeal.nD ReferenceIdeal.τ).loc ReferenceIdeal.main_arg4) = m ((c.tc : Thread KernelIdeal.nD KernelIdeal.τ).loc KernelIdeal.main_arg4)
  ∧ m' ((c.tc : Thread ReferenceIdeal.nD ReferenceIdeal.τ).loc ReferenceIdeal.main_arg5) = m ((c.tc : Thread KernelIdeal.nD KernelIdeal.τ).loc KernelIdeal.main_arg5)
  ∧ m' ((c.tc : Thread ReferenceIdeal.nD ReferenceIdeal.τ).loc ReferenceIdeal.main_arg6) = m ((c.tc : Thread KernelIdeal.nD KernelIdeal.τ).loc KernelIdeal.main_arg6)
  ∧ m' ((c.tc : Thread ReferenceIdeal.nD ReferenceIdeal.τ).loc ReferenceIdeal.main_arg7) = m ((c.tc : Thread KernelIdeal.nD KernelIdeal.τ).loc KernelIdeal.main_arg7)
  ∧ m' ((c.tc : Thread ReferenceIdeal.nD ReferenceIdeal.τ).loc ReferenceIdeal.main_arg8) = m ((c.tc : Thread KernelIdeal.nD KernelIdeal.τ).loc KernelIdeal.main_arg8)
  ∧ m' ((c.tc : Thread ReferenceIdeal.nD ReferenceIdeal.τ).loc ReferenceIdeal.main_arg9) = m ((c.tc : Thread KernelIdeal.nD KernelIdeal.τ).loc KernelIdeal.main_arg9)
  ∧ m' ((c.tc : Thread ReferenceIdeal.nD ReferenceIdeal.τ).loc ReferenceIdeal.main_arg10) = m ((c.tc : Thread KernelIdeal.nD KernelIdeal.τ).loc KernelIdeal.main_arg10)
  ∧ m' ((c.tc : Thread ReferenceIdeal.nD ReferenceIdeal.τ).loc ReferenceIdeal.main_arg11) = m ((c.tc : Thread KernelIdeal.nD KernelIdeal.τ).loc KernelIdeal.main_arg11)
  ∧ m' ((c.tc : Thread ReferenceIdeal.nD ReferenceIdeal.τ).loc ReferenceIdeal.main_arg12) = m ((c.tc : Thread KernelIdeal.nD KernelIdeal.τ).loc KernelIdeal.main_arg12)
  ∧ m' ((c.tc : Thread ReferenceIdeal.nD ReferenceIdeal.τ).loc ReferenceIdeal.main_arg13) = m ((c.tc : Thread KernelIdeal.nD KernelIdeal.τ).loc KernelIdeal.main_arg13)
  ∧ m' ((c.tc : Thread ReferenceIdeal.nD ReferenceIdeal.τ).loc ReferenceIdeal.main_arg14) = m ((c.tc : Thread KernelIdeal.nD KernelIdeal.τ).loc KernelIdeal.main_arg14)
  ∧ m' ((c.tc : Thread ReferenceIdeal.nD ReferenceIdeal.τ).loc ReferenceIdeal.main_arg15) = m ((c.tc : Thread KernelIdeal.nD KernelIdeal.τ).loc KernelIdeal.main_arg15)
  ∧ m' ((c.tc : Thread ReferenceIdeal.nD ReferenceIdeal.τ).loc ReferenceIdeal.main_arg16) = m ((c.tc : Thread KernelIdeal.nD KernelIdeal.τ).loc KernelIdeal.main_arg16)
  ∧ m' ((c.tc : Thread ReferenceIdeal.nD ReferenceIdeal.τ).loc ReferenceIdeal.main_arg17) = m ((c.tc : Thread KernelIdeal.nD KernelIdeal.τ).loc KernelIdeal.main_arg17)
  ∧ m' ((c.tc : Thread ReferenceIdeal.nD ReferenceIdeal.τ).loc ReferenceIdeal.main_arg18) = m ((c.tc : Thread KernelIdeal.nD KernelIdeal.τ).loc KernelIdeal.main_arg18)

theorem in_eq (c : Dev KernelIdeal.nD) (h : Args m m' c) :
    ReferenceIdeal.Whole.rIn (ReferenceIdeal.Whole.start m' c) = KernelIdeal.Whole.kIn m c := by
  obtain ⟨h0, h1, h2, -, h4, h5, h6, -, h8, h9, h10, h11, h12, h13, h14, h15, h16, h17, h18⟩ := h
  unfold ReferenceIdeal.Whole.rIn KernelIdeal.Whole.kIn
  simp only [In.mk.injEq]
  refine ⟨?_, ?_, ?_, ?_, ?_, ?_, ?_, ?_, ?_, ?_, ?_, ?_, ?_, ?_, ?_, ?_, ?_⟩
  · funext b n; exact congrFun h0 (ix2 b n)
  · funext b n; exact congrFun h1 (ix2 b n)
  · funext b n; exact congrFun h2 (ix2 b n)
  · funext b n d; exact congrFun h4 (ix3 b n d)
  · funext b n d; exact congrFun h5 (ix3 b n d)
  · funext b n; exact congrFun h6 (ix2 b n)
  · funext b n; exact congrFun h8 (ix2 b n)
  · funext b n; exact congrFun h9 (ix2 b n)
  · funext b n; exact congrFun h10 (ix2 b n)
  · funext b; exact congrFun h11 (ix1 b)
  · funext b n; exact congrFun h12 (ix2 b n)
  · funext b n; exact congrFun h13 (ix2 b n)
  · funext b; exact congrFun h14 (ix1 b)
  · funext b; exact congrFun h15 (ix1 b)
  · funext b n; exact congrFun h16 (ix2 b n)
  · funext b; exact congrFun h17 (ix1 b)
  · funext b n; exact congrFun h18 (ix2 b n)

theorem full_of (hp : Pre_KernelIdeal_all_filled m) (c : Dev KernelIdeal.nD) (h : Args m m' c) :
    ReferenceIdeal.Whole.Full (ReferenceIdeal.Whole.start m' c) := by
  intro i
  have e := congrFun (hp c) ix0
  have : Subsingleton (Pre_all_filled.S_).Idx := ⟨fun _ _ => funext fun k => k.elim0⟩
  have e2 := Host.reduce_andi_all _ _ _ _ _ e i
  exact (congrFun h.2.2.2.2.2.2.2.1 i).trans e2

theorem ref_resH (hp : Pre_KernelIdeal_all_filled m) (c : Dev KernelIdeal.nD) (h : Args m m' c) :
    StableHlo.finalContents ReferenceIdeal.Value.condOps ReferenceIdeal.Value.preI ReferenceIdeal.Value.bodyI ReferenceIdeal.Value.postI 128 m' c
      (Proc.devRef .tc ReferenceIdeal.main_v123) = KernelIdeal.Whole.resH m c := by
  refine (ReferenceIdeal.Whole.fin_h m' c (full_of m m' hp c h)).trans ?_
  rw [in_eq m m' c h]
  rfl

theorem ref_resC (hp : Pre_KernelIdeal_all_filled m) (c : Dev KernelIdeal.nD) (h : Args m m' c) :
    StableHlo.finalContents ReferenceIdeal.Value.condOps ReferenceIdeal.Value.preI ReferenceIdeal.Value.bodyI ReferenceIdeal.Value.postI 128 m' c
      (Proc.devRef .tc ReferenceIdeal.main_v115) = KernelIdeal.Whole.resC m c := by
  refine (ReferenceIdeal.Whole.fin_c m' c (full_of m m' hp c h)).trans ?_
  rw [in_eq m m' c h]
  rfl

theorem ref_resMem (hp : Pre_KernelIdeal_all_filled m) (c : Dev KernelIdeal.nD) (h : Args m m' c) :
    StableHlo.finalContents ReferenceIdeal.Value.condOps ReferenceIdeal.Value.preI ReferenceIdeal.Value.bodyI ReferenceIdeal.Value.postI 128 m' c
      (Proc.devRef .tc ReferenceIdeal.main_v86_6) = KernelIdeal.Whole.resMem m c := by
  refine (ReferenceIdeal.Whole.fin_mem m' c (full_of m m' hp c h)).trans ?_
  rw [in_eq m m' c h]
  rfl

theorem ref_resSlot (hp : Pre_KernelIdeal_all_filled m) (c : Dev KernelIdeal.nD) (h : Args m m' c) :
    StableHlo.finalContents ReferenceIdeal.Value.condOps ReferenceIdeal.Value.preI ReferenceIdeal.Value.bodyI ReferenceIdeal.Value.postI 128 m' c
      (Proc.devRef .tc ReferenceIdeal.main_v36) = KernelIdeal.Whole.resSlot m c := by
  refine (ReferenceIdeal.Whole.fin_36 m' c (full_of m m' hp c h)).trans ?_
  rw [in_eq m m' c h]
  rfl

theorem ref_resCum (hp : Pre_KernelIdeal_all_filled m) (c : Dev KernelIdeal.nD) (h : Args m m' c) :
    StableHlo.finalContents ReferenceIdeal.Value.condOps ReferenceIdeal.Value.preI ReferenceIdeal.Value.bodyI ReferenceIdeal.Value.postI 128 m' c
      (Proc.devRef .tc ReferenceIdeal.main_v50) = KernelIdeal.Whole.resCum m c := by
  refine (ReferenceIdeal.Whole.fin_50 m' c (full_of m m' hp c h)).trans ?_
  rw [in_eq m m' c h]
  rfl

theorem ref_resAge (hp : Pre_KernelIdeal_all_filled m) (c : Dev KernelIdeal.nD) (h : Args m m' c) :
    StableHlo.finalContents ReferenceIdeal.Value.condOps ReferenceIdeal.Value.preI ReferenceIdeal.Value.bodyI ReferenceIdeal.Value.postI 128 m' c
      (Proc.devRef .tc ReferenceIdeal.main_v65) = KernelIdeal.Whole.resAge m c := by
  refine (ReferenceIdeal.Whole.fin_65 m' c (full_of m m' hp c h)).trans ?_
  rw [in_eq m m' c h]
  rfl

theorem ref_resFull (hp : Pre_KernelIdeal_all_filled m) (c : Dev KernelIdeal.nD) (h : Args m m' c) :
    StableHlo.finalContents ReferenceIdeal.Value.condOps ReferenceIdeal.Value.preI ReferenceIdeal.Value.bodyI ReferenceIdeal.Value.postI 128 m' c
      (Proc.devRef .tc ReferenceIdeal.main_v80) = KernelIdeal.Whole.resFull m c := by
  refine (ReferenceIdeal.Whole.fin_80 m' c (full_of m m' hp c h)).trans ?_
  exact h.2.2.2.2.2.2.2.1

theorem algebraic : algebraic_KernelIdeal_ReferenceIdeal_pre_all_filled := by
  intro m g m' g' hp hargs
  have ha : ∀ c, Args m m' c := hargs
  refine ⟨fun c => KernelIdeal.Whole.resH m c, fun c => KernelIdeal.Whole.resC m c, fun c => KernelIdeal.Whole.resMem m c,
    fun c => KernelIdeal.Whole.resSlot m c, fun c => KernelIdeal.Whole.resCum m c, fun c => KernelIdeal.Whole.resAge m c,
    fun c => KernelIdeal.Whole.resFull m c, ?_, ?_⟩
  · refine (θ_run KernelIdeal.defs _ _).mono (fun r h c => ⟨?_, ?_, ?_, ?_, ?_, ?_, ?_, (h.1 c _ (KernelIdeal.Whole.mem_uc KernelIdeal.main_arg0 (by decide))).trans (KernelIdeal.Whole.W3_args m g c KernelIdeal.main_arg0 (by decide)),
      (h.1 c _ (KernelIdeal.Whole.mem_uc KernelIdeal.main_arg1 (by decide))).trans (KernelIdeal.Whole.W3_args m g c KernelIdeal.main_arg1 (by decide)),
      (h.1 c _ (KernelIdeal.Whole.mem_uc KernelIdeal.main_arg2 (by decide))).trans (KernelIdeal.Whole.W3_args m g c KernelIdeal.main_arg2 (by decide)),
      (h.1 c _ (KernelIdeal.Whole.mem_uc KernelIdeal.main_arg3 (by decide))).trans (KernelIdeal.Whole.W3_args m g c KernelIdeal.main_arg3 (by decide)),
      (h.1 c _ (KernelIdeal.Whole.mem_uc KernelIdeal.main_arg4 (by decide))).trans (KernelIdeal.Whole.W3_args m g c KernelIdeal.main_arg4 (by decide)),
      (h.1 c _ (KernelIdeal.Whole.mem_uc KernelIdeal.main_arg5 (by decide))).trans (KernelIdeal.Whole.W3_args m g c KernelIdeal.main_arg5 (by decide)),
      (h.1 c _ (KernelIdeal.Whole.mem_uc KernelIdeal.main_arg6 (by decide))).trans (KernelIdeal.Whole.W3_args m g c KernelIdeal.main_arg6 (by decide)),
      (h.1 c _ (KernelIdeal.Whole.mem_uc KernelIdeal.main_arg7 (by decide))).trans (KernelIdeal.Whole.W3_args m g c KernelIdeal.main_arg7 (by decide)),
      (h.1 c _ (KernelIdeal.Whole.mem_uc KernelIdeal.main_arg8 (by decide))).trans (KernelIdeal.Whole.W3_args m g c KernelIdeal.main_arg8 (by decide)),
      (h.1 c _ (KernelIdeal.Whole.mem_uc KernelIdeal.main_arg9 (by decide))).trans (KernelIdeal.Whole.W3_args m g c KernelIdeal.main_arg9 (by decide)),
      (h.1 c _ (KernelIdeal.Whole.mem_uc KernelIdeal.main_arg10 (by decide))).trans (KernelIdeal.Whole.W3_args m g c KernelIdeal.main_arg10 (by decide)),
      (h.1 c _ (KernelIdeal.Whole.mem_uc KernelIdeal.main_arg11 (by decide))).trans (KernelIdeal.Whole.W3_args m g c KernelIdeal.main_arg11 (by decide)),
      (h.1 c _ (KernelIdeal.Whole.mem_uc KernelIdeal.main_arg12 (by decide))).trans (KernelIdeal.Whole.W3_args m g c KernelIdeal.main_arg12 (by decide)),
      (h.1 c _ (KernelIdeal.Whole.mem_uc KernelIdeal.main_arg13 (by decide))).trans (KernelIdeal.Whole.W3_args m g c KernelIdeal.main_arg13 (by decide)),
      (h.1 c _ (KernelIdeal.Whole.mem_uc KernelIdeal.main_arg14 (by decide))).trans (KernelIdeal.Whole.W3_args m g c KernelIdeal.main_arg14 (by decide)),
      (h.1 c _ (KernelIdeal.Whole.mem_uc KernelIdeal.main_arg15 (by decide))).trans (KernelIdeal.Whole.W3_args m g c KernelIdeal.main_arg15 (by decide)),
      (h.1 c _ (KernelIdeal.Whole.mem_uc KernelIdeal.main_arg16 (by decide))).trans (KernelIdeal.Whole.W3_args m g c KernelIdeal.main_arg16 (by decide)),
      (h.1 c _ (KernelIdeal.Whole.mem_uc KernelIdeal.main_arg17 (by decide))).trans (KernelIdeal.Whole.W3_args m g c KernelIdeal.main_arg17 (by decide)),
      (h.1 c _ (KernelIdeal.Whole.mem_uc KernelIdeal.main_arg18 (by decide))).trans (KernelIdeal.Whole.W3_args m g c KernelIdeal.main_arg18 (by decide))⟩) (KernelIdeal.Whole.whole_run m g)
    · exact (h.1 c _ (KernelIdeal.Whole.mem_uc KernelIdeal.main_v0_0 (by decide))).trans (KernelIdeal.Whole.end_h m g c)
    · exact (h.1 c _ (KernelIdeal.Whole.mem_uc KernelIdeal.main_v0_1 (by decide))).trans (KernelIdeal.Whole.end_c m g c)
    · exact (h.1 c _ (KernelIdeal.Whole.mem_uc KernelIdeal.main_v0_2 (by decide))).trans (KernelIdeal.Whole.end_mem m g c)
    · exact (h.1 c _ (KernelIdeal.Whole.mem_uc KernelIdeal.main_v0_3 (by decide))).trans (KernelIdeal.Whole.end_slot m g c)
    · exact (h.1 c _ (KernelIdeal.Whole.mem_uc KernelIdeal.main_v0_4 (by decide))).trans (KernelIdeal.Whole.end_cum m g c)
    · exact (h.1 c _ (KernelIdeal.Whole.mem_uc KernelIdeal.main_v0_5 (by decide))).trans (KernelIdeal.Whole.end_age m g c)
    · exact (h.1 c _ (KernelIdeal.Whole.mem_uc KernelIdeal.main_arg7 (by decide))).trans (KernelIdeal.Whole.W3_args m g c KernelIdeal.main_arg7 (by decide))
  · refine (θ_run ReferenceIdeal.defs _ _).mono (fun r h c => ⟨?_, ?_, ?_, ?_, ?_, ?_, ?_, ?_⟩) (ReferenceIdeal.Whole.whole_run m' g')
    · exact (h.1 c ReferenceIdeal.main_v123 (by decide)).trans (ref_resH m m' hp c (ha c))
    · exact (h.1 c ReferenceIdeal.main_v115 (by decide)).trans (ref_resC m m' hp c (ha c))
    · exact (h.1 c ReferenceIdeal.main_v86_6 (by decide)).trans (ref_resMem m m' hp c (ha c))
    · exact (h.1 c ReferenceIdeal.main_v36 (by decide)).trans (ref_resSlot m m' hp c (ha c))
    · exact (h.1 c ReferenceIdeal.main_v50 (by decide)).trans (ref_resCum m m' hp c (ha c))
    · exact (h.1 c ReferenceIdeal.main_v65 (by decide)).trans (ref_resAge m m' hp c (ha c))
    · exact (h.1 c ReferenceIdeal.main_v80 (by decide)).trans (ref_resFull m m' hp c (ha c))
    · exact ⟨(h.1 c ReferenceIdeal.main_arg0 (by decide)).trans (ReferenceIdeal.Whole.kept m' c ReferenceIdeal.main_arg0 (by decide +kernel)),
      (h.1 c ReferenceIdeal.main_arg1 (by decide)).trans (ReferenceIdeal.Whole.kept m' c ReferenceIdeal.main_arg1 (by decide +kernel)),
      (h.1 c ReferenceIdeal.main_arg2 (by decide)).trans (ReferenceIdeal.Whole.kept m' c ReferenceIdeal.main_arg2 (by decide +kernel)),
      (h.1 c ReferenceIdeal.main_arg3 (by decide)).trans (ReferenceIdeal.Whole.kept m' c ReferenceIdeal.main_arg3 (by decide +kernel)),
      (h.1 c ReferenceIdeal.main_arg4 (by decide)).trans (ReferenceIdeal.Whole.kept m' c ReferenceIdeal.main_arg4 (by decide +kernel)),
      (h.1 c ReferenceIdeal.main_arg5 (by decide)).trans (ReferenceIdeal.Whole.kept m' c ReferenceIdeal.main_arg5 (by decide +kernel)),
      (h.1 c ReferenceIdeal.main_arg6 (by decide)).trans (ReferenceIdeal.Whole.kept m' c ReferenceIdeal.main_arg6 (by decide +kernel)),
      (h.1 c ReferenceIdeal.main_arg7 (by decide)).trans (ReferenceIdeal.Whole.kept m' c ReferenceIdeal.main_arg7 (by decide +kernel)),
      (h.1 c ReferenceIdeal.main_arg8 (by decide)).trans (ReferenceIdeal.Whole.kept m' c ReferenceIdeal.main_arg8 (by decide +kernel)),
      (h.1 c ReferenceIdeal.main_arg9 (by decide)).trans (ReferenceIdeal.Whole.kept m' c ReferenceIdeal.main_arg9 (by decide +kernel)),
      (h.1 c ReferenceIdeal.main_arg10 (by decide)).trans (ReferenceIdeal.Whole.kept m' c ReferenceIdeal.main_arg10 (by decide +kernel)),
      (h.1 c ReferenceIdeal.main_arg11 (by decide)).trans (ReferenceIdeal.Whole.kept m' c ReferenceIdeal.main_arg11 (by decide +kernel)),
      (h.1 c ReferenceIdeal.main_arg12 (by decide)).trans (ReferenceIdeal.Whole.kept m' c ReferenceIdeal.main_arg12 (by decide +kernel)),
      (h.1 c ReferenceIdeal.main_arg13 (by decide)).trans (ReferenceIdeal.Whole.kept m' c ReferenceIdeal.main_arg13 (by decide +kernel)),
      (h.1 c ReferenceIdeal.main_arg14 (by decide)).trans (ReferenceIdeal.Whole.kept m' c ReferenceIdeal.main_arg14 (by decide +kernel)),
      (h.1 c ReferenceIdeal.main_arg15 (by decide)).trans (ReferenceIdeal.Whole.kept m' c ReferenceIdeal.main_arg15 (by decide +kernel)),
      (h.1 c ReferenceIdeal.main_arg16 (by decide)).trans (ReferenceIdeal.Whole.kept m' c ReferenceIdeal.main_arg16 (by decide +kernel)),
      (h.1 c ReferenceIdeal.main_arg17 (by decide)).trans (ReferenceIdeal.Whole.kept m' c ReferenceIdeal.main_arg17 (by decide +kernel)),
      (h.1 c ReferenceIdeal.main_arg18 (by decide)).trans (ReferenceIdeal.Whole.kept m' c ReferenceIdeal.main_arg18 (by decide +kernel))⟩

end Cert.Agree
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Whole
public import proofs.«01_k».proof.Proof.Same
public import proofs.«01_k».proof.Proof.RefRun
public import proofs.«01_k».proof.Proof.Agree

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Agree.preFacts,
    Cert.Kernel.Whole.quiescent, fun m g _ => Cert.KernelIdeal.Whole.frame m g, fun m g _ => Cert.KernelIdeal.Whole.frame m g,
    fun m g _ => Cert.ReferenceIdeal.Whole.frame m g, fun m g _ => Cert.ReferenceIdeal.Whole.frame m g, trivial,
    Cert.Agree.algebraic⟩

end Cert.Proof

end
